-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v1) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)) (v2 : (c : Dev Cert.Kernel8Ideal.nD) → Buf (Elt Ideal) ((c.tc : Thread Cert.Kernel8Ideal.nD Cert.Kernel8Ideal.τ).loc Cert.Kernel8Ideal.main_v7_2)) (v3 : (c : Dev Cert.Kernel8Ideal.nD) → Buf (Elt Ideal) ((c.tc : Thread Cert.Kernel8Ideal.nD Cert.Kernel8Ideal.τ).loc Cert.Kernel8Ideal.main_v7_3)) (v4 : (c : Dev Cert.Kernel8Ideal.nD) → Buf (Elt Ideal) ((c.tc : Thread Cert.Kernel8Ideal.nD Cert.Kernel8Ideal.τ).loc Cert.Kernel8Ideal.main_v7_4)) (v5 : (c : Dev Cert.Kernel8Ideal.nD) → Buf (Elt Ideal) ((c.tc : Thread Cert.Kernel8Ideal.nD Cert.Kernel8Ideal.τ).loc Cert.Kernel8Ideal.main_v7_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_v7_2) = v2 c
          ∧ r.2.mem ((c.tc : Thread Cert.Kernel8Ideal.nD Cert.Kernel8Ideal.τ).loc Cert.Kernel8Ideal.main_v7_3) = v3 c
          ∧ r.2.mem ((c.tc : Thread Cert.Kernel8Ideal.nD Cert.Kernel8Ideal.τ).loc Cert.Kernel8Ideal.main_v7_4) = v4 c
          ∧ r.2.mem ((c.tc : Thread Cert.Kernel8Ideal.nD Cert.Kernel8Ideal.τ).loc Cert.Kernel8Ideal.main_v7_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_v51) = v2 c
          ∧ r.2.mem ((c.tc : Thread Cert.Reference8Ideal.nD Cert.Reference8Ideal.τ).loc Cert.Reference8Ideal.main_v52) = v3 c
          ∧ r.2.mem ((c.tc : Thread Cert.Reference8Ideal.nD Cert.Reference8Ideal.τ).loc Cert.Reference8Ideal.main_v53) = v4 c
          ∧ r.2.mem ((c.tc : Thread Cert.Reference8Ideal.nD Cert.Reference8Ideal.τ).loc Cert.Reference8Ideal.main_v54) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v36) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v7_0)) (v1 : (c : Dev Cert.Kernel11Ideal.nD) → Buf (Elt Ideal) ((c.tc : Thread Cert.Kernel11Ideal.nD Cert.Kernel11Ideal.τ).loc Cert.Kernel11Ideal.main_v7_1)) (v2 : (c : Dev Cert.Kernel11Ideal.nD) → Buf (Elt Ideal) ((c.tc : Thread Cert.Kernel11Ideal.nD Cert.Kernel11Ideal.τ).loc Cert.Kernel11Ideal.main_v7_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_0) = v0 c
          ∧ r.2.mem ((c.tc : Thread Cert.Kernel11Ideal.nD Cert.Kernel11Ideal.τ).loc Cert.Kernel11Ideal.main_v7_1) = v1 c
          ∧ r.2.mem ((c.tc : Thread Cert.Kernel11Ideal.nD Cert.Kernel11Ideal.τ).loc Cert.Kernel11Ideal.main_v7_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_v34) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x2816 .f32) (main_arg1 : FVec F S2048x2816 .f32) (main_arg2 : FVec F S2816x1024 .f32) (main_arg3 : FVec F S2048x1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2048x2816 .f32 := Host.absf main_arg1
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Kernel.lean ====
abbrev S2048x5632 : Shape := ⟨2, ![2048, 5632]⟩
abbrev S2048x768 : Shape := ⟨2, ![2048, 768]⟩
abbrev S2048x256 : Shape := ⟨2, ![2048, 256]⟩
abbrev S2048x4x64 : Shape := ⟨3, ![2048, 4, 64]⟩
abbrev S4x2048x2048 : Shape := ⟨3, ![4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048 : Shape := ⟨2, ![4, 2048]⟩
abbrev S4x16x128 : Shape := ⟨3, ![4, 16, 128]⟩
abbrev S16x4x128 : Shape := ⟨3, ![16, 4, 128]⟩
abbrev S16x512x1 : Shape := ⟨3, ![16, 512, 1]⟩
abbrev S128x256 : Shape := ⟨2, ![128, 256]⟩
abbrev S1x512x1 : Shape := ⟨3, ![1, 512, 1]⟩
abbrev S1x256 : Shape := ⟨2, ![1, 256]⟩
abbrev S512x256 : Shape := ⟨2, ![512, 256]⟩
abbrev S512x1 : Shape := ⟨2, ![512, 1]⟩
abbrev S128x128 : Shape := ⟨2, ![128, 128]⟩
abbrev S512x128 : Shape := ⟨2, ![512, 128]⟩
abbrev S512 : Shape := ⟨1, ![512]⟩

abbrev nBuf : Space → Nat
  | .hbm => 47
  | .vmem => 12
  | .smem => 0
  | _ => 0

abbrev bufTy : (tb : Table) → Fin (tcTables nBuf tb) → BufTy
  | .hbm, ⟨0, _⟩ => ⟨S2048x5632, .f32⟩
  | .hbm, ⟨1, _⟩ => ⟨S2048x768, .f32⟩
  | .hbm, ⟨2, _⟩ => ⟨S2048x5632, .bf16⟩
  | .hbm, ⟨3, _⟩ => ⟨S2048x256, .f32⟩
  | .hbm, ⟨4, _⟩ => ⟨S2048x4x64, .f32⟩
  | .hbm, ⟨5, _⟩ => ⟨S2048x256, .f32⟩
  | .hbm, ⟨6, _⟩ => ⟨S2048x4x64, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .i1⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S_, .f32⟩
  | .hbm, ⟨36, _⟩ => ⟨S4x2048x2048, .i1⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x16x128, .f32⟩
  | .hbm, ⟨42, _⟩ => ⟨S16x4x128, .f32⟩
  | .hbm, ⟨43, _⟩ => ⟨S16x512x1, .f32⟩
  | .hbm, ⟨44, _⟩ => ⟨S2048x256, .f32⟩
  | .hbm, ⟨45, _⟩ => ⟨S2048x256, .f32⟩
  | .hbm, ⟨46, _⟩ => ⟨S2048x256, .f32⟩
  | .local _ .vmem, ⟨0, _⟩ => ⟨S128x256, .bf16⟩
  | .local _ .vmem, ⟨1, _⟩ => ⟨S128x256, .bf16⟩
  | .local _ .vmem, ⟨2, _⟩ => ⟨S2048x256, .bf16⟩
  | .local _ .vmem, ⟨3, _⟩ => ⟨S2048x256, .bf16⟩
  | .local _ .vmem, ⟨4, _⟩ => ⟨S1x512x1, .f32⟩
  | .local _ .vmem, ⟨5, _⟩ => ⟨S1x512x1, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S2048x256, .f32⟩
  | .local _ .vmem, ⟨11, _⟩ => ⟨S2048x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_cst_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

@[reducible] def k0_t1_loop (i : grid0.Coords) : Scf.Loop 32 :=
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let c1_i32_32 : BitVec 32 := 1#32
  ⟨c0_i32_30, v113, c1_i32_32⟩
def k0_mult1 (i : grid0.Coords) (k0_t1 : Fin (k0_t1_loop i).trips) : BitVec 32 :=
  let c4_i32_69 : BitVec 32 := 4#32
  let c0_i32_30 : BitVec 32 := 0#32
  let c1_i32_32 : BitVec 32 := 1#32
  let arg9 : BitVec 32 := Scf.iv c0_i32_30 c1_i32_32 k0_t1
  let v232 : BitVec 32 := Scalar.muli c4_i32_69 arg9
  let c0_i32_70 : BitVec 32 := 0#32
  let v233 : BitVec 32 := Scalar.addi v232 c0_i32_70
  let c128_i32_77 : BitVec 32 := 128#32
  let v240 : BitVec 32 := Scalar.muli v233 c128_i32_77
  v240
def k0_off1 (i : grid0.Coords) (k0_t1 : Fin (k0_t1_loop i).trips) (c0_i32_70 : BitVec 32) : Fin 2 → Nat :=
  let c4_i32_69 : BitVec 32 := 4#32
  let c0_i32_30 : BitVec 32 := 0#32
  let c1_i32_32 : BitVec 32 := 1#32
  let arg9 : BitVec 32 := Scf.iv c0_i32_30 c1_i32_32 k0_t1
  let v232 : BitVec 32 := Scalar.muli c4_i32_69 arg9
  let v233 : BitVec 32 := Scalar.addi v232 c0_i32_70
  let c128_i32_77 : BitVec 32 := 128#32
  let v240 : BitVec 32 := Scalar.muli v233 c128_i32_77
  let v241 : BitVec 32 := v240
  let v242 : Index := Scalar.indexCast v241
  let c0_78 : Index := 0#32
  ![v242.toNat, 0]
def k0_mult2 (i : grid0.Coords) (k0_t1 : Fin (k0_t1_loop i).trips) : BitVec 32 :=
  let c4_i32_71 : BitVec 32 := 4#32
  let c0_i32_30 : BitVec 32 := 0#32
  let c1_i32_32 : BitVec 32 := 1#32
  let arg9 : BitVec 32 := Scf.iv c0_i32_30 c1_i32_32 k0_t1
  let v234 : BitVec 32 := Scalar.muli c4_i32_71 arg9
  let c1_i32_72 : BitVec 32 := 1#32
  let v235 : BitVec 32 := Scalar.addi v234 c1_i32_72
  let c128_i32_84 : BitVec 32 := 128#32
  let v259 : BitVec 32 := Scalar.muli v235 c128_i32_84
  v259
def k0_mult3 (i : grid0.Coords) (k0_t1 : Fin (k0_t1_loop i).trips) : BitVec 32 :=
  let c4_i32_73 : BitVec 32 := 4#32
  let c0_i32_30 : BitVec 32 := 0#32
  let c1_i32_32 : BitVec 32 := 1#32
  let arg9 : BitVec 32 := Scf.iv c0_i32_30 c1_i32_32 k0_t1
  let v236 : BitVec 32 := Scalar.muli c4_i32_73 arg9
  let c2_i32_74 : BitVec 32 := 2#32
  let v237 : BitVec 32 := Scalar.addi v236 c2_i32_74
  let c128_i32_91 : BitVec 32 := 128#32
  let v278 : BitVec 32 := Scalar.muli v237 c128_i32_91
  v278
def k0_mult4 (i : grid0.Coords) (k0_t1 : Fin (k0_t1_loop i).trips) : BitVec 32 :=
  let c4_i32_75 : BitVec 32 := 4#32
  let c0_i32_30 : BitVec 32 := 0#32
  let c1_i32_32 : BitVec 32 := 1#32
  let arg9 : BitVec 32 := Scf.iv c0_i32_30 c1_i32_32 k0_t1
  let v238 : BitVec 32 := Scalar.muli c4_i32_75 arg9
  let c3_i32_76 : BitVec 32 := 3#32
  let v239 : BitVec 32 := Scalar.addi v238 c3_i32_76
  let c128_i32_98 : BitVec 32 := 128#32
  let v297 : BitVec 32 := Scalar.muli v239 c128_i32_98
  v297
@[reducible] def k0_t2_loop (i : grid0.Coords) : Scf.Loop 32 :=
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let v110 : BitVec 32 := Scalar.addi c0_i32_30 v109
  let c1_i32_33 : BitVec 32 := 1#32
  ⟨v113, v110, c1_i32_33⟩
def k0_mult5 (i : grid0.Coords) (k0_t2 : Fin (k0_t2_loop i).trips) : BitVec 32 :=
  let c4_i32_69 : BitVec 32 := 4#32
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let c1_i32_33 : BitVec 32 := 1#32
  let arg9 : BitVec 32 := Scf.iv v113 c1_i32_33 k0_t2
  let v232 : BitVec 32 := Scalar.muli c4_i32_69 arg9
  let c0_i32_70 : BitVec 32 := 0#32
  let v233 : BitVec 32 := Scalar.addi v232 c0_i32_70
  let c128_i32_77 : BitVec 32 := 128#32
  let v240 : BitVec 32 := Scalar.muli v233 c128_i32_77
  v240
def k0_off2 (i : grid0.Coords) (k0_t2 : Fin (k0_t2_loop i).trips) (c0_i32_70 : BitVec 32) : Fin 2 → Nat :=
  let c4_i32_69 : BitVec 32 := 4#32
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let c1_i32_33 : BitVec 32 := 1#32
  let arg9 : BitVec 32 := Scf.iv v113 c1_i32_33 k0_t2
  let v232 : BitVec 32 := Scalar.muli c4_i32_69 arg9
  let v233 : BitVec 32 := Scalar.addi v232 c0_i32_70
  let c128_i32_77 : BitVec 32 := 128#32
  let v240 : BitVec 32 := Scalar.muli v233 c128_i32_77
  let v241 : BitVec 32 := v240
  let v242 : Index := Scalar.indexCast v241
  let c0_78 : Index := 0#32
  ![v242.toNat, 0]
def k0_mult6 (i : grid0.Coords) (k0_t2 : Fin (k0_t2_loop i).trips) : BitVec 32 :=
  let c4_i32_71 : BitVec 32 := 4#32
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let c1_i32_33 : BitVec 32 := 1#32
  let arg9 : BitVec 32 := Scf.iv v113 c1_i32_33 k0_t2
  let v234 : BitVec 32 := Scalar.muli c4_i32_71 arg9
  let c1_i32_72 : BitVec 32 := 1#32
  let v235 : BitVec 32 := Scalar.addi v234 c1_i32_72
  let c128_i32_84 : BitVec 32 := 128#32
  let v259 : BitVec 32 := Scalar.muli v235 c128_i32_84
  v259
def k0_mult7 (i : grid0.Coords) (k0_t2 : Fin (k0_t2_loop i).trips) : BitVec 32 :=
  let c4_i32_73 : BitVec 32 := 4#32
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let c1_i32_33 : BitVec 32 := 1#32
  let arg9 : BitVec 32 := Scf.iv v113 c1_i32_33 k0_t2
  let v236 : BitVec 32 := Scalar.muli c4_i32_73 arg9
  let c2_i32_74 : BitVec 32 := 2#32
  let v237 : BitVec 32 := Scalar.addi v236 c2_i32_74
  let c128_i32_91 : BitVec 32 := 128#32
  let v278 : BitVec 32 := Scalar.muli v237 c128_i32_91
  v278
def k0_mult8 (i : grid0.Coords) (k0_t2 : Fin (k0_t2_loop i).trips) : BitVec 32 :=
  let c4_i32_75 : BitVec 32 := 4#32
  let c0_i32_30 : BitVec 32 := 0#32
  let arg0 : BitVec 32 := BitVec.ofNat 32 (i 0).val
  let c0_i32_23 : BitVec 32 := 0#32
  let v92 : BitVec 1 := Scalar.cmpi .sgt arg0 c0_i32_23
  let v93 : BitVec 32 := Scalar.extui v92
  let c0_i32_24 : BitVec 32 := 0#32
  let v94 : BitVec 1 := Scalar.cmpi .slt arg0 c0_i32_24
  let v95 : BitVec 32 := Scalar.extui v94
  let v96 : BitVec 32 := Scalar.subi v93 v95
  let c4_i32 : BitVec 32 := 4#32
  let c0_i32_25 : BitVec 32 := 0#32
  let v97 : BitVec 1 := Scalar.cmpi .sgt c4_i32 c0_i32_25
  let v98 : BitVec 32 := Scalar.extui v97
  let c0_i32_26 : BitVec 32 := 0#32
  let v99 : BitVec 1 := Scalar.cmpi .slt c4_i32 c0_i32_26
  let v100 : BitVec 32 := Scalar.extui v99
  let v101 : BitVec 32 := Scalar.subi v98 v100
  let v102 : BitVec 1 := Scalar.cmpi .ne v96 v101
  let v103 : BitVec 32 := Scalar.remsi arg0 c4_i32
  let c0_i32_27 : BitVec 32 := 0#32
  let v104 : BitVec 1 := Scalar.cmpi .ne v103 c0_i32_27
  let v105 : BitVec 1 := Scalar.andi v102 v104
  let v91 : BitVec 32 := Scalar.divsi arg0 c4_i32
  let c1_i32_28 : BitVec 32 := 1#32
  let v106 : BitVec 32 := Scalar.subi v91 c1_i32_28
  let v107 : BitVec 32 := Scalar.select v105 v106 v91
  let v109 : BitVec 32 := Scalar.subi v107 c0_i32_30
  let c1_i32_31 : BitVec 32 := 1#32
  let v111 : BitVec 32 := Scalar.divsi v109 c1_i32_31
  let v112 : BitVec 32 := Scalar.muli v111 c1_i32_31
  let v113 : BitVec 32 := Scalar.addi c0_i32_30 v112
  let c1_i32_33 : BitVec 32 := 1#32
  let arg9 : BitVec 32 := Scf.iv v113 c1_i32_33 k0_t2
  let v238 : BitVec 32 := Scalar.muli c4_i32_75 arg9
  let c3_i32_76 : BitVec 32 := 3#32
  let v239 : BitVec 32 := Scalar.addi v238 c3_i32_76
  let c128_i32_98 : BitVec 32 := 128#32
  let v297 : BitVec 32 := Scalar.muli v239 c128_i32_98
  v297
def k0_cond2 (i : grid0.Coords) : BitVec 1 :=
  let arg0 : BitVec 32 := BitVec.ofNat 32 (i 0).val
  let c2_i32_35 : BitVec 32 := 2#32
  let v118 : BitVec 32 := Scalar.andi arg0 c2_i32_35
  let c0_i32_36 : BitVec 32 := 0#32
  let v119 : BitVec 1 := Scalar.cmpi .ne v118 c0_i32_36
  let v120 : BitVec 32 := Scalar.extui v119
  let c0_i32_37 : BitVec 32 := 0#32
  let v121 : BitVec 1 := Scalar.cmpi .ne v120 c0_i32_37
  v121

def k0_mult9 (i : grid0.Coords) : BitVec 32 :=
  let arg0 : BitVec 32 := BitVec.ofNat 32 (i 0).val
  let c3_i32_34 : BitVec 32 := 3#32
  let v116 : BitVec 32 := Scalar.andi arg0 c3_i32_34
  let v117 : BitVec 32 := Scalar.subi arg0 v116
  let c128_i32_70 : BitVec 32 := 128#32
  let v233 : BitVec 32 := Scalar.muli v117 c128_i32_70
  v233
def k0_off3 (i : grid0.Coords) : Fin 2 → Nat :=
  let arg0 : BitVec 32 := BitVec.ofNat 32 (i 0).val
  let c3_i32_34 : BitVec 32 := 3#32
  let v116 : BitVec 32 := Scalar.andi arg0 c3_i32_34
  let v117 : BitVec 32 := Scalar.subi arg0 v116
  let c128_i32_70 : BitVec 32 := 128#32
  let v233 : BitVec 32 := Scalar.muli v117 c128_i32_70
  let v234 : BitVec 32 := v233
  let v235 : Index := Scalar.indexCast v234
  let c0_71 : Index := 0#32
  ![v235.toNat, 0]
def k0_mult10 (i : grid0.Coords) : BitVec 32 :=
  let arg0 : BitVec 32 := BitVec.ofNat 32 (i 0).val
  let c3_i32_34 : BitVec 32 := 3#32
  let v116 : BitVec 32 := Scalar.andi arg0 c3_i32_34
  let v117 : BitVec 32 := Scalar.subi arg0 v116
  let c1_i32_69 : BitVec 32 := 1#32
  let v232 : BitVec 32 := Scalar.addi v117 c1_i32_69
  let c128_i32_77 : BitVec 32 := 128#32
  let v252 : BitVec 32 := Scalar.muli v232 c128_i32_77
  v252
def k0_off4 (i : grid0.Coords) : Fin 2 → Nat :=
  let arg0 : BitVec 32 := BitVec.ofNat 32 (i 0).val
  let c3_i32_34 : BitVec 32 := 3#32
  let v116 : BitVec 32 := Scalar.andi arg0 c3_i32_34
  let v117 : BitVec 32 := Scalar.subi arg0 v116
  let c1_i32_69 : BitVec 32 := 1#32
  let v232 : BitVec 32 := Scalar.addi v117 c1_i32_69
  let c128_i32_77 : BitVec 32 := 128#32
  let v252 : BitVec 32 := Scalar.muli v232 c128_i32_77
  let v253 : BitVec 32 := v252
  let v254 : Index := Scalar.indexCast v253
  let c0_78 : Index := 0#32
  ![v254.toNat, 0]
def k0_cond3 (i : grid0.Coords) : BitVec 1 :=
  let arg0 : BitVec 32 := BitVec.ofNat 32 (i 0).val
  let c1_i32_38 : BitVec 32 := 1#32
  let v123 : BitVec 32 := Scalar.andi arg0 c1_i32_38
  let c0_i32_39 : BitVec 32 := 0#32
  let v124 : BitVec 1 := Scalar.cmpi .ne v123 c0_i32_39
  let v125 : BitVec 32 := Scalar.extui v124
  let c0_i32_40 : BitVec 32 := 0#32
  let v126 : BitVec 1 := Scalar.cmpi .ne v125 c0_i32_40
  v126

def k0_mult11 (i : grid0.Coords) : BitVec 32 :=
  let arg0 : BitVec 32 := BitVec.ofNat 32 (i 0).val
  let c1_i32_69 : BitVec 32 := 1#32
  let v232 : BitVec 32 := Scalar.subi arg0 c1_i32_69
  let c128_i32_70 : BitVec 32 := 128#32
  let v233 : BitVec 32 := Scalar.muli v232 c128_i32_70
  v233
def k0_off5 (i : grid0.Coords) : Fin 2 → Nat :=
  let arg0 : BitVec 32 := BitVec.ofNat 32 (i 0).val
  let c1_i32_69 : BitVec 32 := 1#32
  let v232 : BitVec 32 := Scalar.subi arg0 c1_i32_69
  let c128_i32_70 : BitVec 32 := 128#32
  let v233 : BitVec 32 := Scalar.muli v232 c128_i32_70
  let v234 : BitVec 32 := v233
  let v235 : Index := Scalar.indexCast v234
  let c0_71 : Index := 0#32
  ![v235.toNat, 0]
def k0_mult12 (i : grid0.Coords) : BitVec 32 :=
  let arg0 : BitVec 32 := BitVec.ofNat 32 (i 0).val
  let c128_i32 : BitVec 32 := 128#32
  let v128 : BitVec 32 := Scalar.muli arg0 c128_i32
  v128
def k0_off6 (i : grid0.Coords) : Fin 2 → Nat :=
  let arg0 : BitVec 32 := BitVec.ofNat 32 (i 0).val
  let c128_i32 : BitVec 32 := 128#32
  let v128 : BitVec 32 := Scalar.muli arg0 c128_i32
  let v129 : BitVec 32 := v128
  let v130 : Index := Scalar.indexCast v129
  let c0_41 : Index := 0#32
  ![v130.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x5632 : Shape := ⟨2, ![2048, 5632]⟩
abbrev S2048x768 : Shape := ⟨2, ![2048, 768]⟩
abbrev S2048x256 : Shape := ⟨2, ![2048, 256]⟩
abbrev S2048x4x64 : Shape := ⟨3, ![2048, 4, 64]⟩
abbrev S4x2048x2048 : Shape := ⟨3, ![4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x64x2048 : Shape := ⟨3, ![4, 64, 2048]⟩
abbrev S4x2048x64 : Shape := ⟨3, ![4, 2048, 64]⟩

abbrev nBuf : Space → Nat
  | .hbm => 174
  | .vmem => 0
  | .smem => 0
  | _ => 0

abbrev hbmTy0_0 (i : Nat) : BufTy := match i % 128 with
  | 0 => ⟨S2048x5632, .f32⟩
  | 1 => ⟨S2048x768, .f32⟩
  | 2 => ⟨S2048x256, .f32⟩
  | 3 => ⟨S2048x256, .f32⟩
  | 4 => ⟨S2048x256, .f32⟩
  | 5 => ⟨S2048x4x64, .f32⟩
  | 6 => ⟨S2048x4x64, .f32⟩
  | 7 => ⟨S4x2048x2048, .f32⟩
  | 8 => ⟨S_, .f32⟩
  | 9 => ⟨S4x2048x2048, .f32⟩
  | 10 => ⟨S4x2048x2048, .f32⟩
  | 11 => ⟨S2048, .i32⟩
  | 12 => ⟨S1x2048, .i32⟩
  | 13 => ⟨S2048x1, .i32⟩
  | 14 => ⟨S2048x2048, .i32⟩
  | 15 => ⟨S2048x2048, .i32⟩
  | 16 => ⟨S2048x2048, .i1⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S4x2048x2048, .f32⟩
  | 23 => ⟨S4x2048x2048, .f32⟩
  | 24 => ⟨S4x2048x2048, .i1⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S_, .f32⟩
  | 34 => ⟨S4x2048x2048, .f32⟩
  | 35 => ⟨S4x2048x2048, .i1⟩
  | 36 => ⟨S_, .f32⟩
  | 37 => ⟨S4x2048x2048, .f32⟩
  | 38 => ⟨S4x2048x2048, .f32⟩
  | 39 => ⟨S_, .f32⟩
  | 40 => ⟨S4x2048x2048, .f32⟩
  | 41 => ⟨S4x2048x2048, .i1⟩
  | 42 => ⟨S_, .f32⟩
  | 43 => ⟨S4x2048x2048, .f32⟩
  | 44 => ⟨S4x2048x2048, .f32⟩
  | 45 => ⟨S4x2048x2048, .f32⟩
  | 46 => ⟨S4x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4x2048x2048, .f32⟩
  | 55 => ⟨S4x2048x2048, .i1⟩
  | 56 => ⟨S_, .f32⟩
  | 57 => ⟨S4x2048x2048, .f32⟩
  | 58 => ⟨S4x2048x2048, .f32⟩
  | 59 => ⟨S4x2048x2048, .f32⟩
  | 60 => ⟨S4x2048x2048, .f32⟩
  | 61 => ⟨S4x2048x2048, .f32⟩
  | 62 => ⟨S_, .f32⟩
  | 63 => ⟨S4x2048x2048, .f32⟩
  | 64 => ⟨S4x2048x2048, .f32⟩
  | 65 => ⟨S4x2048x2048, .f32⟩
  | 66 => ⟨S_, .f32⟩
  | 67 => ⟨S_, .f32⟩
  | 68 => ⟨S4x2048x2048, .i1⟩
  | 69 => ⟨S4x2048x2048, .f32⟩
  | 70 => ⟨S4x2048x2048, .f32⟩
  | 71 => ⟨S_, .f32⟩
  | 72 => ⟨S4x2048x2048, .f32⟩
  | 73 => ⟨S_, .f32⟩
  | 74 => ⟨S_, .f32⟩
  | 75 => ⟨S4x2048x2048, .f32⟩
  | 76 => ⟨S4x2048x2048, .f32⟩
  | 77 => ⟨S4x2048x2048, .f32⟩
  | 78 => ⟨S_, .f32⟩
  | 79 => ⟨S4x2048x2048, .f32⟩
  | 80 => ⟨S4x2048x2048, .f32⟩
  | 81 => ⟨S4x2048x2048, .f32⟩
  | 82 => ⟨S4x2048x2048, .f32⟩
  | 83 => ⟨S4x2048x2048, .i1⟩
  | 84 => ⟨S4x2048x2048, .f32⟩
  | 85 => ⟨S4x2048x2048, .f32⟩
  | 86 => ⟨S4x2048x2048, .f32⟩
  | 87 => ⟨S4x2048x2048, .f32⟩
  | 88 => ⟨S4x2048x2048, .f32⟩
  | 89 => ⟨S4x2048x2048, .f32⟩
  | 90 => ⟨S4x2048x2048, .f32⟩
  | 91 => ⟨S4x2048x2048, .f32⟩
  | 92 => ⟨S_, .f32⟩
  | 93 => ⟨S4x2048x2048, .f32⟩
  | 94 => ⟨S4x2048x2048, .i1⟩
  | 95 => ⟨S_, .f32⟩
  | 96 => ⟨S4x2048x2048, .f32⟩
  | 97 => ⟨S4x2048x2048, .f32⟩
  | 98 => ⟨S_, .f32⟩
  | 99 => ⟨S4x2048x2048, .f32⟩
  | 100 => ⟨S4x2048x2048, .i1⟩
  | 101 => ⟨S_, .f32⟩
  | 102 => ⟨S4x2048x2048, .f32⟩
  | 103 => ⟨S4x2048x2048, .f32⟩
  | 104 => ⟨S4x2048x2048, .f32⟩
  | 105 => ⟨S4x2048x2048, .f32⟩
  | 106 => ⟨S_, .f32⟩
  | 107 => ⟨S_, .f32⟩
  | 108 => ⟨S_, .i1⟩
  | 109 => ⟨S_, .f32⟩
  | 110 => ⟨S_, .f32⟩
  | 111 => ⟨S_, .f32⟩
  | 112 => ⟨S_, .f32⟩
  | 113 => ⟨S4x2048x2048, .f32⟩
  | 114 => ⟨S4x2048x2048, .i1⟩
  | 115 => ⟨S_, .f32⟩
  | 116 => ⟨S4x2048x2048, .f32⟩
  | 117 => ⟨S4x2048x2048, .f32⟩
  | 118 => ⟨S4x2048x2048, .f32⟩
  | 119 => ⟨S4x2048x2048, .f32⟩
  | 120 => ⟨S4x2048x2048, .f32⟩
  | 121 => ⟨S_, .f32⟩
  | 122 => ⟨S4x2048x2048, .f32⟩
  | 123 => ⟨S4x2048x2048, .f32⟩
  | 124 => ⟨S4x2048x2048, .f32⟩
  | 125 => ⟨S4x2048x2048, .f32⟩
  | 126 => ⟨S4x2048x2048, .f32⟩
  | 127 => ⟨S_, .f32⟩
  | _ => ⟨S2048x5632, .f32⟩

abbrev hbmTy0_1 (i : Nat) : BufTy := match i % 128 with
  | 0 => ⟨S_, .f32⟩
  | 1 => ⟨S4x2048x2048, .i1⟩
  | 2 => ⟨S4x2048x2048, .f32⟩
  | 3 => ⟨S4x2048x2048, .f32⟩
  | 4 => ⟨S_, .f32⟩
  | 5 => ⟨S4x2048x2048, .f32⟩
  | 6 => ⟨S2048x4x64, .f32⟩
  | 7 => ⟨S4x64x2048, .f32⟩
  | 8 => ⟨S2048x4x64, .f32⟩
  | 9 => ⟨S2048x256, .f32⟩
  | 10 => ⟨S2048x256, .f32⟩
  | 11 => ⟨S2048x4x64, .f32⟩
  | 12 => ⟨S4x64x2048, .f32⟩
  | 13 => ⟨S4x2048x2048, .f32⟩
  | 14 => ⟨S4x64x2048, .f32⟩
  | 15 => ⟨S2048x4x64, .f32⟩
  | 16 => ⟨S2048x256, .f32⟩
  | 17 => ⟨S_, .f32⟩
  | 18 => ⟨S4x2048x2048, .f32⟩
  | 19 => ⟨S4x2048x2048, .f32⟩
  | 20 => ⟨S4x2048x2048, .f32⟩
  | 21 => ⟨S4x2048x2048, .f32⟩
  | 22 => ⟨S4x2048x2048, .f32⟩
  | 23 => ⟨S4x2048x2048, .f32⟩
  | 24 => ⟨S4x2048x2048, .f32⟩
  | 25 => ⟨S_, .f32⟩
  | 26 => ⟨S_, .f32⟩
  | 27 => ⟨S4x2048x2048, .f32⟩
  | 28 => ⟨S4x2048x2048, .f32⟩
  | 29 => ⟨S_, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S4x2048x2048, .f32⟩
  | 36 => ⟨S4x2048x2048, .f32⟩
  | 37 => ⟨S_, .f32⟩
  | 38 => ⟨S4x2048x2048, .f32⟩
  | 39 => ⟨S4x2048x2048, .f32⟩
  | 40 => ⟨S4x2048x64, .f32⟩
  | 41 => ⟨S2048x4x64, .f32⟩
  | 42 => ⟨S4x2048x64, .f32⟩
  | 43 => ⟨S2048x4x64, .f32⟩
  | 44 => ⟨S2048x256, .f32⟩
  | 45 => ⟨S2048x256, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_cst_0 : Ref sig .tc := ⟨.hbm, 66, rfl⟩
abbrev main_call1_v0 : Ref sig .tc := ⟨.hbm, 67, rfl⟩
abbrev main_v16_1 : Ref sig .tc := ⟨.hbm, 68, rfl⟩
abbrev main_call1_v2 : Ref sig .tc := ⟨.hbm, 69, rfl⟩
abbrev main_v16_0 : Ref sig .tc := ⟨.hbm, 70, rfl⟩
abbrev main_call1_cst : Ref sig .tc := ⟨.hbm, 71, rfl⟩
abbrev main_v16_2 : Ref sig .tc := ⟨.hbm, 72, rfl⟩
abbrev main_call2_cst : Ref sig .tc := ⟨.hbm, 73, rfl⟩
abbrev main_call2_v0 : Ref sig .tc := ⟨.hbm, 74, rfl⟩
abbrev main_v17 : Ref sig .tc := ⟨.hbm, 75, rfl⟩
abbrev main_v18 : Ref sig .tc := ⟨.hbm, 76, rfl⟩
abbrev main_call3_v0 : Ref sig .tc := ⟨.hbm, 77, rfl⟩
abbrev main_call3_call0_cst : Ref sig .tc := ⟨.hbm, 78, rfl⟩
abbrev main_call3_call0_v0 : Ref sig .tc := ⟨.hbm, 79, rfl⟩
abbrev main_call3_call0_v1 : Ref sig .tc := ⟨.hbm, 80, rfl⟩
abbrev main_call3_call0_v2 : Ref sig .tc := ⟨.hbm, 81, rfl⟩
abbrev main_call3_call0_v3 : Ref sig .tc := ⟨.hbm, 82, rfl⟩
abbrev main_call3_call0_v4 : Ref sig .tc := ⟨.hbm, 83, rfl⟩
abbrev main_call3_call0_v5 : Ref sig .tc := ⟨.hbm, 84, rfl⟩
abbrev main_call3_call0_v6 : Ref sig .tc := ⟨.hbm, 85, rfl⟩
abbrev main_call3_call0_v7 : Ref sig .tc := ⟨.hbm, 86, rfl⟩
abbrev main_call3_call0_v8 : Ref sig .tc := ⟨.hbm, 87, rfl⟩
abbrev main_call3_call0_v9 : Ref sig .tc := ⟨.hbm, 88, rfl⟩
abbrev main_call3_call0_v10 : Ref sig .tc := ⟨.hbm, 89, rfl⟩
abbrev main_call3_call0_v11 : Ref sig .tc := ⟨.hbm, 90, rfl⟩
abbrev main_call3_v1_0 : Ref sig .tc := ⟨.hbm, 91, rfl⟩
abbrev main_call3_call0_cst_0 : Ref sig .tc := ⟨.hbm, 92, rfl⟩
abbrev main_call3_call0_v13 : Ref sig .tc := ⟨.hbm, 93, rfl⟩
abbrev main_call3_call0_v14 : Ref sig .tc := ⟨.hbm, 94, rfl⟩
abbrev main_call3_call0_cst_1 : Ref sig .tc := ⟨.hbm, 95, rfl⟩
abbrev main_call3_call0_v15 : Ref sig .tc := ⟨.hbm, 96, rfl⟩
abbrev main_call3_call0_v16 : Ref sig .tc := ⟨.hbm, 97, rfl⟩
abbrev main_call3_call0_cst_2 : Ref sig .tc := ⟨.hbm, 98, rfl⟩
abbrev main_call3_call0_v17 : Ref sig .tc := ⟨.hbm, 99, rfl⟩
abbrev main_call3_call0_v18 : Ref sig .tc := ⟨.hbm, 100, rfl⟩
abbrev main_call3_call0_cst_3 : Ref sig .tc := ⟨.hbm, 101, rfl⟩
abbrev main_call3_call0_v19 : Ref sig .tc := ⟨.hbm, 102, rfl⟩
abbrev main_call3_call0_v20 : Ref sig .tc := ⟨.hbm, 103, rfl⟩
abbrev main_call3_call0_v21 : Ref sig .tc := ⟨.hbm, 104, rfl⟩
abbrev main_v19_1 : Ref sig .tc := ⟨.hbm, 105, rfl⟩
abbrev main_call3_call0_cst_4 : Ref sig .tc := ⟨.hbm, 106, rfl⟩
abbrev main_call3_call0_cst_5 : Ref sig .tc := ⟨.hbm, 107, rfl⟩
abbrev main_call3_call0_v23 : Ref sig .tc := ⟨.hbm, 108, rfl⟩
abbrev main_call3_call0_cst_6 : Ref sig .tc := ⟨.hbm, 109, rfl⟩
abbrev main_call3_call0_cst_7 : Ref sig .tc := ⟨.hbm, 110, rfl⟩
abbrev main_call3_call0_v24 : Ref sig .tc := ⟨.hbm, 111, rfl⟩
abbrev main_call3_call0_cst_8 : Ref sig .tc := ⟨.hbm, 112, rfl⟩
abbrev main_call3_call0_v25 : Ref sig .tc := ⟨.hbm, 113, rfl⟩
abbrev main_call3_call0_v26 : Ref sig .tc := ⟨.hbm, 114, rfl⟩
abbrev main_call3_call0_cst_9 : Ref sig .tc := ⟨.hbm, 115, rfl⟩
abbrev main_call3_call0_v27 : Ref sig .tc := ⟨.hbm, 116, rfl⟩
abbrev main_call3_call0_v28 : Ref sig .tc := ⟨.hbm, 117, rfl⟩
abbrev main_call3_call0_v29 : Ref sig .tc := ⟨.hbm, 118, rfl⟩
abbrev main_call3_call0_v30 : Ref sig .tc := ⟨.hbm, 119, rfl⟩
abbrev main_call3_call0_v31 : Ref sig .tc := ⟨.hbm, 120, rfl⟩
abbrev main_call3_call0_cst_10 : Ref sig .tc := ⟨.hbm, 121, rfl⟩
abbrev main_call3_call0_v32 : Ref sig .tc := ⟨.hbm, 122, rfl⟩
abbrev main_v19_2 : Ref sig .tc := ⟨.hbm, 123, rfl⟩
abbrev main_v19_0 : Ref sig .tc := ⟨.hbm, 124, rfl⟩
abbrev main_v20 : Ref sig .tc := ⟨.hbm, 125, rfl⟩
abbrev main_v21 : Ref sig .tc := ⟨.hbm, 126, rfl⟩
abbrev main_cst_1 : Ref sig .tc := ⟨.hbm, 127, rfl⟩
abbrev main_call4_v0 : Ref sig .tc := ⟨.hbm, 128, rfl⟩
abbrev main_v22_1 : Ref sig .tc := ⟨.hbm, 129, rfl⟩
abbrev main_call4_v2 : Ref sig .tc := ⟨.hbm, 130, rfl⟩
abbrev main_v22_0 : Ref sig .tc := ⟨.hbm, 131, rfl⟩
abbrev main_call4_cst : Ref sig .tc := ⟨.hbm, 132, rfl⟩
abbrev main_v22_2 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩

abbrev nD : Nat := 1
abbrev τ : Topo := Topo.v7x

variable {F : FTy → Type} [FloatOps F]
-- ==== Kernel2.lean ====
abbrev S2048x1024 : Shape := ⟨2, ![2048, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 19
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x1024, .f32⟩
  | .hbm, ⟨5, _⟩ => ⟨S2048x1024, .bf16⟩
  | .hbm, ⟨6, _⟩ => ⟨S2048x2816, .bf16⟩
  | .hbm, ⟨7, _⟩ => ⟨S2048x4x704, .bf16⟩
  | .hbm, ⟨8, _⟩ => ⟨S4x2048x704, .bf16⟩
  | .hbm, ⟨9, _⟩ => ⟨S2048x1024, .bf16⟩
  | .hbm, ⟨10, _⟩ => ⟨S2048x2816, .bf16⟩
  | .hbm, ⟨11, _⟩ => ⟨S2048x4x704, .bf16⟩
  | .hbm, ⟨12, _⟩ => ⟨S4x2048x704, .bf16⟩
  | .hbm, ⟨13, _⟩ => ⟨S2048x2816, .bf16⟩
  | .hbm, ⟨14, _⟩ => ⟨S2048x4x704, .bf16⟩
  | .hbm, ⟨15, _⟩ => ⟨S4x2048x704, .bf16⟩
  | .hbm, ⟨16, _⟩ => ⟨S4x704x1024, .bf16⟩
  | .hbm, ⟨17, _⟩ => ⟨S4x704x1024, .bf16⟩
  | .hbm, ⟨18, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S704x1024, .f32⟩
  | .local _ .vmem, ⟨17, _⟩ => ⟨S704x1024, .f32⟩
  | .local _ .vmem, ⟨18, _⟩ => ⟨S704x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_17 : BitVec 32 := 0#32
  let v21 : BitVec 1 := Scalar.cmpi .ne v20 c0_i32_17
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x1024, .f32⟩
  | .hbm, ⟨5, _⟩ => ⟨S_, .f32⟩
  | .hbm, ⟨6, _⟩ => ⟨S1024x2816, .f32⟩
  | .hbm, ⟨7, _⟩ => ⟨S2816x1024, .f32⟩
  | .hbm, ⟨8, _⟩ => ⟨S2048x2816, .f32⟩
  | .hbm, ⟨9, _⟩ => ⟨S2048x2816, .f32⟩
  | .hbm, ⟨10, _⟩ => ⟨S2048x1024, .f32⟩
  | .hbm, ⟨11, _⟩ => ⟨S1024x2816, .f32⟩
  | .hbm, ⟨12, _⟩ => ⟨S2816x1024, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S2816x1024, .bf16⟩
  | .hbm, ⟨20, _⟩ => ⟨S4x704x1024, .bf16⟩
  | .hbm, ⟨21, _⟩ => ⟨S2816x1024, .bf16⟩
  | .hbm, ⟨22, _⟩ => ⟨S4x704x1024, .bf16⟩
  | .hbm, ⟨23, _⟩ => ⟨S2816x1024, .bf16⟩
  | .hbm, ⟨24, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x1024, .bf16⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x2048x704, .bf16⟩
  | .hbm, ⟨11, _⟩ => ⟨S4x2048x704, .bf16⟩
  | .hbm, ⟨12, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S2048x1024 : Shape := ⟨2, ![2048, 1024]⟩
abbrev S1024x2816 : Shape := ⟨2, ![1024, 2816]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .bf16⟩
  | .hbm, ⟨16, _⟩ => ⟨S2048x4x704, .bf16⟩
  | .hbm, ⟨17, _⟩ => ⟨S4x2048x704, .bf16⟩
  | .hbm, ⟨18, _⟩ => ⟨S2048x2816, .bf16⟩
  | .hbm, ⟨19, _⟩ => ⟨S2048x4x704, .bf16⟩
  | .hbm, ⟨20, _⟩ => ⟨S4x2048x704, .bf16⟩
  | .hbm, ⟨21, _⟩ => ⟨S2048x2816, .bf16⟩
  | .hbm, ⟨22, _⟩ => ⟨S2048x4x704, .bf16⟩
  | .hbm, ⟨23, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel4.lean ====
abbrev S2048x2816 : Shape := ⟨2, ![2048, 2816]⟩
abbrev S2816x1024 : Shape := ⟨2, ![2816, 1024]⟩
abbrev S2048x1024 : Shape := ⟨2, ![2048, 1024]⟩
abbrev S4x704x1024 : Shape := ⟨3, ![4, 704, 1024]⟩
abbrev S2048x4x704 : Shape := ⟨3, ![2048, 4, 704]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 15
  | .vmem => 12
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S4x704x1024, .f32⟩
  | .hbm, ⟨6, _⟩ => ⟨S4x704x1024, .bf16⟩
  | .hbm, ⟨7, _⟩ => ⟨S2048x2816, .bf16⟩
  | .hbm, ⟨8, _⟩ => ⟨S2048x4x704, .bf16⟩
  | .hbm, ⟨9, _⟩ => ⟨S4x2048x704, .bf16⟩
  | .hbm, ⟨10, _⟩ => ⟨S2048x2816, .bf16⟩
  | .hbm, ⟨11, _⟩ => ⟨S2048x4x704, .bf16⟩
  | .hbm, ⟨12, _⟩ => ⟨S4x2048x704, .bf16⟩
  | .hbm, ⟨13, _⟩ => ⟨S4x2048x704, .bf16⟩
  | .hbm, ⟨14, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048x4x704 : Shape := ⟨3, ![2048, 4, 704]⟩
abbrev S4x2048x704 : Shape := ⟨3, ![4, 2048, 704]⟩

abbrev nBuf : Space → Nat
  | .hbm => 32
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .bf16⟩
  | .hbm, ⟨27, _⟩ => ⟨S2048x4x704, .bf16⟩
  | .hbm, ⟨28, _⟩ => ⟨S4x2048x704, .bf16⟩
  | .hbm, ⟨29, _⟩ => ⟨S2048x2816, .bf16⟩
  | .hbm, ⟨30, _⟩ => ⟨S2048x4x704, .bf16⟩
  | .hbm, ⟨31, _⟩ => ⟨S4x2048x704, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel5.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S2048x5632, .f32⟩
  | .hbm, ⟨7, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S2048x1024 : Shape := ⟨2, ![2048, 1024]⟩
abbrev S2048x5632 : Shape := ⟨2, ![2048, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S2048x1024, .bf16⟩
  | .hbm, ⟨3, _⟩ => ⟨S2048x5632, .bf16⟩
  | .hbm, ⟨4, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S2048x1024 : Shape := ⟨2, ![2048, 1024]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5632, .f32⟩
  | .hbm, ⟨2, _⟩ => ⟨S_, .f32⟩
  | .hbm, ⟨3, _⟩ => ⟨S1024x5632, .f32⟩
  | .hbm, ⟨4, _⟩ => ⟨S2048x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1024x4x1408, .bf16⟩
  | .hbm, ⟨9, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x256 : Shape := ⟨2, ![2048, 256]⟩
abbrev S2048x128 : Shape := ⟨2, ![2048, 128]⟩
abbrev S2048x384 : Shape := ⟨2, ![2048, 384]⟩
abbrev S256x1024 : Shape := ⟨2, ![256, 1024]⟩
abbrev S128x1024 : Shape := ⟨2, ![128, 1024]⟩
abbrev S384x1024 : Shape := ⟨2, ![384, 1024]⟩
abbrev S2048x5632 : Shape := ⟨2, ![2048, 5632]⟩
abbrev S768x1024 : Shape := ⟨2, ![768, 1024]⟩
abbrev S768x4x256 : Shape := ⟨3, ![768, 4, 256]⟩
abbrev S4x768x256 : Shape := ⟨3, ![4, 768, 256]⟩
abbrev S2048x1024 : Shape := ⟨2, ![2048, 1024]⟩
abbrev S1024x256 : Shape := ⟨2, ![1024, 256]⟩
abbrev S1024x128 : Shape := ⟨2, ![1024, 128]⟩
abbrev S1024x384 : Shape := ⟨2, ![1024, 384]⟩
abbrev S1x768x256 : Shape := ⟨3, ![1, 768, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x384x256 : Shape := ⟨3, ![1, 384, 256]⟩
abbrev S384x256 : Shape := ⟨2, ![384, 256]⟩

abbrev nBuf : Space → Nat
  | .hbm => 12
  | .vmem => 16
  | .smem => 0
  | _ => 0

abbrev bufTy : (tb : Table) → Fin (tcTables nBuf tb) → BufTy
  | .hbm, ⟨0, _⟩ => ⟨S2048x256, .f32⟩
  | .hbm, ⟨1, _⟩ => ⟨S2048x128, .f32⟩
  | .hbm, ⟨2, _⟩ => ⟨S2048x384, .f32⟩
  | .hbm, ⟨3, _⟩ => ⟨S256x1024, .f32⟩
  | .hbm, ⟨4, _⟩ => ⟨S128x1024, .f32⟩
  | .hbm, ⟨5, _⟩ => ⟨S384x1024, .f32⟩
  | .hbm, ⟨6, _⟩ => ⟨S2048x5632, .f32⟩
  | .hbm, ⟨7, _⟩ => ⟨S768x1024, .f32⟩
  | .hbm, ⟨8, _⟩ => ⟨S768x4x256, .f32⟩
  | .hbm, ⟨9, _⟩ => ⟨S4x768x256, .f32⟩
  | .hbm, ⟨10, _⟩ => ⟨S4x768x256, .bf16⟩
  | .hbm, ⟨11, _⟩ => ⟨S2048x1024, .bf16⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1024x384, .f32⟩
  | .local _ .vmem, ⟨5, _⟩ => ⟨S1024x384, .f32⟩
  | .local _ .vmem, ⟨6, _⟩ => ⟨S1x768x256, .bf16⟩
  | .local _ .vmem, ⟨7, _⟩ => ⟨S1x768x256, .bf16⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2048x256 : Shape := ⟨2, ![2048, 256]⟩
abbrev S2048x128 : Shape := ⟨2, ![2048, 128]⟩
abbrev S2048x384 : Shape := ⟨2, ![2048, 384]⟩
abbrev S256x1024 : Shape := ⟨2, ![256, 1024]⟩
abbrev S128x1024 : Shape := ⟨2, ![128, 1024]⟩
abbrev S384x1024 : Shape := ⟨2, ![384, 1024]⟩
abbrev S2048x5632 : Shape := ⟨2, ![2048, 5632]⟩
abbrev S2048x1024 : Shape := ⟨2, ![2048, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x128, .f32⟩
  | .hbm, ⟨2, _⟩ => ⟨S2048x384, .f32⟩
  | .hbm, ⟨3, _⟩ => ⟨S256x1024, .f32⟩
  | .hbm, ⟨4, _⟩ => ⟨S128x1024, .f32⟩
  | .hbm, ⟨5, _⟩ => ⟨S384x1024, .f32⟩
  | .hbm, ⟨6, _⟩ => ⟨S2048x5632, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel8.lean ====
abbrev S2048x256 : Shape := ⟨2, ![2048, 256]⟩
abbrev S2048x128 : Shape := ⟨2, ![2048, 128]⟩
abbrev S2048x384 : Shape := ⟨2, ![2048, 384]⟩
abbrev S256x1024 : Shape := ⟨2, ![256, 1024]⟩
abbrev S128x1024 : Shape := ⟨2, ![128, 1024]⟩
abbrev S384x1024 : Shape := ⟨2, ![384, 1024]⟩
abbrev S2048x5632 : Shape := ⟨2, ![2048, 5632]⟩
abbrev S1024x1024 : Shape := ⟨2, ![1024, 1024]⟩
abbrev S2048x1024 : Shape := ⟨2, ![2048, 1024]⟩
abbrev S4x256x1024 : Shape := ⟨3, ![4, 256, 1024]⟩
abbrev S768x1024 : Shape := ⟨2, ![768, 1024]⟩
abbrev S768x4x256 : Shape := ⟨3, ![768, 4, 256]⟩
abbrev S4x768x256 : Shape := ⟨3, ![4, 768, 256]⟩
abbrev S1x256x1024 : Shape := ⟨3, ![1, 256, 1024]⟩
abbrev S1024x256 : Shape := ⟨2, ![1024, 256]⟩
abbrev S1024x128 : Shape := ⟨2, ![1024, 128]⟩
abbrev S1024x384 : Shape := ⟨2, ![1024, 384]⟩
abbrev S1x768x256 : Shape := ⟨3, ![1, 768, 256]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1x384x256 : Shape := ⟨3, ![1, 384, 256]⟩
abbrev S384x256 : Shape := ⟨2, ![384, 256]⟩

abbrev nBuf : Space → Nat
  | .hbm => 22
  | .vmem => 30
  | .smem => 0
  | _ => 0

abbrev bufTy : (tb : Table) → Fin (tcTables nBuf tb) → BufTy
  | .hbm, ⟨0, _⟩ => ⟨S2048x256, .f32⟩
  | .hbm, ⟨1, _⟩ => ⟨S2048x128, .f32⟩
  | .hbm, ⟨2, _⟩ => ⟨S2048x384, .f32⟩
  | .hbm, ⟨3, _⟩ => ⟨S256x1024, .f32⟩
  | .hbm, ⟨4, _⟩ => ⟨S128x1024, .f32⟩
  | .hbm, ⟨5, _⟩ => ⟨S384x1024, .f32⟩
  | .hbm, ⟨6, _⟩ => ⟨S2048x5632, .f32⟩
  | .hbm, ⟨7, _⟩ => ⟨S1024x1024, .f32⟩
  | .hbm, ⟨8, _⟩ => ⟨S2048x1024, .f32⟩
  | .hbm, ⟨9, _⟩ => ⟨S2048x1024, .bf16⟩
  | .hbm, ⟨10, _⟩ => ⟨S4x256x1024, .f32⟩
  | .hbm, ⟨11, _⟩ => ⟨S4x256x1024, .bf16⟩
  | .hbm, ⟨12, _⟩ => ⟨S768x1024, .f32⟩
  | .hbm, ⟨13, _⟩ => ⟨S768x4x256, .f32⟩
  | .hbm, ⟨14, _⟩ => ⟨S4x768x256, .f32⟩
  | .hbm, ⟨15, _⟩ => ⟨S4x768x256, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x256, .f32⟩
  | .local _ .vmem, ⟨5, _⟩ => ⟨S1024x256, .f32⟩
  | .local _ .vmem, ⟨6, _⟩ => ⟨S1024x128, .f32⟩
  | .local _ .vmem, ⟨7, _⟩ => ⟨S1024x128, .f32⟩
  | .local _ .vmem, ⟨8, _⟩ => ⟨S1024x384, .f32⟩
  | .local _ .vmem, ⟨9, _⟩ => ⟨S1024x384, .f32⟩
  | .local _ .vmem, ⟨10, _⟩ => ⟨S1x768x256, .bf16⟩
  | .local _ .vmem, ⟨11, _⟩ => ⟨S1x768x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference8Ideal.lean ====
abbrev S2048x256 : Shape := ⟨2, ![2048, 256]⟩
abbrev S2048x128 : Shape := ⟨2, ![2048, 128]⟩
abbrev S2048x384 : Shape := ⟨2, ![2048, 384]⟩
abbrev S256x1024 : Shape := ⟨2, ![256, 1024]⟩
abbrev S128x1024 : Shape := ⟨2, ![128, 1024]⟩
abbrev S384x1024 : Shape := ⟨2, ![384, 1024]⟩
abbrev S2048x5632 : Shape := ⟨2, ![2048, 5632]⟩
abbrev S1024x1024 : Shape := ⟨2, ![1024, 1024]⟩
abbrev S2048x1024 : Shape := ⟨2, ![2048, 1024]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x128, .f32⟩
  | .hbm, ⟨2, _⟩ => ⟨S2048x384, .f32⟩
  | .hbm, ⟨3, _⟩ => ⟨S256x1024, .f32⟩
  | .hbm, ⟨4, _⟩ => ⟨S128x1024, .f32⟩
  | .hbm, ⟨5, _⟩ => ⟨S384x1024, .f32⟩
  | .hbm, ⟨6, _⟩ => ⟨S2048x5632, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .bf16⟩
  | .hbm, ⟨68, _⟩ => ⟨S2048x1024, .bf16⟩
  | .hbm, ⟨69, _⟩ => ⟨S2048x1024, .bf16⟩
  | .hbm, ⟨70, _⟩ => ⟨S2048x1024, .bf16⟩
  | .hbm, ⟨71, _⟩ => ⟨S2048x1024, .bf16⟩
  | .hbm, ⟨72, _⟩ => ⟨S2048x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel9.lean ====
abbrev S2048x2816 : Shape := ⟨2, ![2048, 2816]⟩
abbrev S2816x1024 : Shape := ⟨2, ![2816, 1024]⟩
abbrev S2048x1024 : Shape := ⟨2, ![2048, 1024]⟩
abbrev S6x3x1024 : Shape := ⟨3, ![6, 3, 1024]⟩
abbrev S6x1024 : Shape := ⟨2, ![6, 1024]⟩
abbrev S18x1x1024 : Shape := ⟨3, ![18, 1, 1024]⟩
abbrev S6x1x1024 : Shape := ⟨3, ![6, 1, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x1x1024 : Shape := ⟨3, ![1, 1, 1024]⟩
abbrev S_ : Shape := ⟨0, ![]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 17
  | .vmem => 15
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S6x3x1024, .f32⟩
  | .hbm, ⟨4, _⟩ => ⟨S6x1024, .f32⟩
  | .hbm, ⟨5, _⟩ => ⟨S18x1x1024, .f32⟩
  | .hbm, ⟨6, _⟩ => ⟨S6x1x1024, .f32⟩
  | .hbm, ⟨7, _⟩ => ⟨S18x1x1024, .f32⟩
  | .hbm, ⟨8, _⟩ => ⟨S6x1x1024, .f32⟩
  | .hbm, ⟨9, _⟩ => ⟨S2048x2816, .bf16⟩
  | .hbm, ⟨10, _⟩ => ⟨S2048x4x704, .bf16⟩
  | .hbm, ⟨11, _⟩ => ⟨S4x2048x704, .bf16⟩
  | .hbm, ⟨12, _⟩ => ⟨S4x704x1024, .f32⟩
  | .hbm, ⟨13, _⟩ => ⟨S4x704x1024, .bf16⟩
  | .hbm, ⟨14, _⟩ => ⟨S2048x1024, .f32⟩
  | .hbm, ⟨15, _⟩ => ⟨S2048x1024, .f32⟩
  | .hbm, ⟨16, _⟩ => ⟨S2048x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S4x704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2048x2816 : Shape := ⟨2, ![2048, 2816]⟩
abbrev S2816x1024 : Shape := ⟨2, ![2816, 1024]⟩
abbrev S2048x1024 : Shape := ⟨2, ![2048, 1024]⟩
abbrev S6x3x1024 : Shape := ⟨3, ![6, 3, 1024]⟩
abbrev S6x1024 : Shape := ⟨2, ![6, 1024]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S6x3x1024, .f32⟩
  | .hbm, ⟨4, _⟩ => ⟨S6x1024, .f32⟩
  | .hbm, ⟨5, _⟩ => ⟨S2048x1024, .f32⟩
  | .hbm, ⟨6, _⟩ => ⟨S1x1x1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1x1024, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1x1024, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel10.lean ====
abbrev S2048x1024 : Shape := ⟨2, ![2048, 1024]⟩
abbrev S4x256x1024 : Shape := ⟨3, ![4, 256, 1024]⟩
abbrev S1024x256 : Shape := ⟨2, ![1024, 256]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S4x256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S2048x1024 : Shape := ⟨2, ![2048, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S4x256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S6x3x1024 : Shape := ⟨3, ![6, 3, 1024]⟩
abbrev S6x1024 : Shape := ⟨2, ![6, 1024]⟩
abbrev S18x1x1024 : Shape := ⟨3, ![18, 1, 1024]⟩
abbrev S6x1x1024 : Shape := ⟨3, ![6, 1, 1024]⟩
abbrev S4x256x1024 : Shape := ⟨3, ![4, 256, 1024]⟩
abbrev S1x1x1024 : Shape := ⟨3, ![1, 1, 1024]⟩
abbrev S_ : Shape := ⟨0, ![]⟩
abbrev S1024x256 : Shape := ⟨2, ![1024, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S6x3x1024, .f32⟩
  | .hbm, ⟨4, _⟩ => ⟨S6x1024, .f32⟩
  | .hbm, ⟨5, _⟩ => ⟨S18x1x1024, .f32⟩
  | .hbm, ⟨6, _⟩ => ⟨S6x1x1024, .f32⟩
  | .hbm, ⟨7, _⟩ => ⟨S18x1x1024, .f32⟩
  | .hbm, ⟨8, _⟩ => ⟨S6x1x1024, .f32⟩
  | .hbm, ⟨9, _⟩ => ⟨S2048x1024, .bf16⟩
  | .hbm, ⟨10, _⟩ => ⟨S4x256x1024, .f32⟩
  | .hbm, ⟨11, _⟩ => ⟨S4x256x1024, .bf16⟩
  | .hbm, ⟨12, _⟩ => ⟨S2048x1024, .f32⟩
  | .hbm, ⟨13, _⟩ => ⟨S2048x1024, .f32⟩
  | .hbm, ⟨14, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S4x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S2048x1024 : Shape := ⟨2, ![2048, 1024]⟩
abbrev S1024x1024 : Shape := ⟨2, ![1024, 1024]⟩
abbrev S6x3x1024 : Shape := ⟨3, ![6, 3, 1024]⟩
abbrev S6x1024 : Shape := ⟨2, ![6, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S6x3x1024, .f32⟩
  | .hbm, ⟨4, _⟩ => ⟨S6x1024, .f32⟩
  | .hbm, ⟨5, _⟩ => ⟨S2048x1024, .f32⟩
  | .hbm, ⟨6, _⟩ => ⟨S1x1x1024, .f32⟩
  | .hbm, ⟨7, _⟩ => ⟨S1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1x1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1x1024, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Kernel12.lean ====
abbrev S2048x256 : Shape := ⟨2, ![2048, 256]⟩
abbrev S2048x128 : Shape := ⟨2, ![2048, 128]⟩
abbrev S2048x384 : Shape := ⟨2, ![2048, 384]⟩
abbrev S2048x1024 : Shape := ⟨2, ![2048, 1024]⟩
abbrev S4x768x256 : Shape := ⟨3, ![4, 768, 256]⟩
abbrev S1024x256 : Shape := ⟨2, ![1024, 256]⟩
abbrev S1024x128 : Shape := ⟨2, ![1024, 128]⟩
abbrev S1024x384 : Shape := ⟨2, ![1024, 384]⟩
abbrev S1x768x256 : Shape := ⟨3, ![1, 768, 256]⟩
abbrev S768x256 : Shape := ⟨2, ![768, 256]⟩
abbrev S256x256 : Shape := ⟨2, ![256, 256]⟩
abbrev S128x256 : Shape := ⟨2, ![128, 256]⟩
abbrev S384x256 : Shape := ⟨2, ![384, 256]⟩

abbrev nBuf : Space → Nat
  | .hbm => 10
  | .vmem => 15
  | .smem => 0
  | _ => 0

abbrev bufTy : (tb : Table) → Fin (tcTables nBuf tb) → BufTy
  | .hbm, ⟨0, _⟩ => ⟨S2048x256, .f32⟩
  | .hbm, ⟨1, _⟩ => ⟨S2048x128, .f32⟩
  | .hbm, ⟨2, _⟩ => ⟨S2048x384, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S4x768x256, .bf16⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1024x384, .f32⟩
  | .local _ .vmem, ⟨5, _⟩ => ⟨S1024x384, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1x768x256, .bf16⟩
  | .local _ .vmem, ⟨13, _⟩ => ⟨S1x768x256, .bf16⟩
  | .local _ .vmem, ⟨14, _⟩ => ⟨S768x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference12Ideal.lean ====
abbrev S2048x256 : Shape := ⟨2, ![2048, 256]⟩
abbrev S2048x128 : Shape := ⟨2, ![2048, 128]⟩
abbrev S2048x384 : Shape := ⟨2, ![2048, 384]⟩
abbrev S2048x1024 : Shape := ⟨2, ![2048, 1024]⟩
abbrev S_ : Shape := ⟨0, ![]⟩
abbrev S256x1024 : Shape := ⟨2, ![256, 1024]⟩
abbrev S128x1024 : Shape := ⟨2, ![128, 1024]⟩
abbrev S384x1024 : Shape := ⟨2, ![384, 1024]⟩
abbrev S1024x384 : Shape := ⟨2, ![1024, 384]⟩
abbrev S1024x128 : Shape := ⟨2, ![1024, 128]⟩
abbrev S1024x256 : Shape := ⟨2, ![1024, 256]⟩
abbrev S768x1024 : Shape := ⟨2, ![768, 1024]⟩
abbrev S768x4x256 : Shape := ⟨3, ![768, 4, 256]⟩
abbrev S4x768x256 : Shape := ⟨3, ![4, 768, 256]⟩

abbrev nBuf : Space → Nat
  | .hbm => 25
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x128, .f32⟩
  | .hbm, ⟨2, _⟩ => ⟨S2048x384, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S128x1024, .f32⟩
  | .hbm, ⟨10, _⟩ => ⟨S_, .f32⟩
  | .hbm, ⟨11, _⟩ => ⟨S384x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1024x384, .f32⟩
  | .hbm, ⟨16, _⟩ => ⟨S384x1024, .f32⟩
  | .hbm, ⟨17, _⟩ => ⟨S1024x128, .f32⟩
  | .hbm, ⟨18, _⟩ => ⟨S128x1024, .f32⟩
  | .hbm, ⟨19, _⟩ => ⟨S1024x256, .f32⟩
  | .hbm, ⟨20, _⟩ => ⟨S256x1024, .f32⟩
  | .hbm, ⟨21, _⟩ => ⟨S768x1024, .f32⟩
  | .hbm, ⟨22, _⟩ => ⟨S768x1024, .bf16⟩
  | .hbm, ⟨23, _⟩ => ⟨S768x4x256, .bf16⟩
  | .hbm, ⟨24, _⟩ => ⟨S4x768x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel13.lean ====
abbrev S256x1024 : Shape := ⟨2, ![256, 1024]⟩
abbrev S128x1024 : Shape := ⟨2, ![128, 1024]⟩
abbrev S384x1024 : Shape := ⟨2, ![384, 1024]⟩
abbrev S2048x1024 : Shape := ⟨2, ![2048, 1024]⟩
abbrev S768x1024 : Shape := ⟨2, ![768, 1024]⟩
abbrev S768x4x256 : Shape := ⟨3, ![768, 4, 256]⟩
abbrev S4x768x256 : Shape := ⟨3, ![4, 768, 256]⟩
abbrev S2048x768 : Shape := ⟨2, ![2048, 768]⟩
abbrev S1024x256 : Shape := ⟨2, ![1024, 256]⟩
abbrev S1x768x256 : Shape := ⟨3, ![1, 768, 256]⟩
abbrev S1024x768 : Shape := ⟨2, ![1024, 768]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S1024x128 : Shape := ⟨2, ![1024, 128]⟩
abbrev S1x384x256 : Shape := ⟨3, ![1, 384, 256]⟩
abbrev S384x256 : Shape := ⟨2, ![384, 256]⟩
abbrev S1024x384 : Shape := ⟨2, ![1024, 384]⟩

abbrev nBuf : Space → Nat
  | .hbm => 14
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S384x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S768x1024, .f32⟩
  | .hbm, ⟨10, _⟩ => ⟨S768x4x256, .f32⟩
  | .hbm, ⟨11, _⟩ => ⟨S4x768x256, .f32⟩
  | .hbm, ⟨12, _⟩ => ⟨S4x768x256, .bf16⟩
  | .hbm, ⟨13, _⟩ => ⟨S2048x768, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1x768x256, .bf16⟩
  | .local _ .vmem, ⟨7, _⟩ => ⟨S1x768x256, .bf16⟩
  | .local _ .vmem, ⟨8, _⟩ => ⟨S1024x768, .f32⟩
  | .local _ .vmem, ⟨9, _⟩ => ⟨S1024x768, .f32⟩
  | .local _ .vmem, ⟨10, _⟩ => ⟨S1024x768, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference13Ideal.lean ====
abbrev S256x1024 : Shape := ⟨2, ![256, 1024]⟩
abbrev S128x1024 : Shape := ⟨2, ![128, 1024]⟩
abbrev S384x1024 : Shape := ⟨2, ![384, 1024]⟩
abbrev S2048x1024 : Shape := ⟨2, ![2048, 1024]⟩
abbrev S_ : Shape := ⟨0, ![]⟩
abbrev S2048x256 : Shape := ⟨2, ![2048, 256]⟩
abbrev S2048x128 : Shape := ⟨2, ![2048, 128]⟩
abbrev S2048x384 : Shape := ⟨2, ![2048, 384]⟩
abbrev S2048x768 : Shape := ⟨2, ![2048, 768]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S128x1024, .f32⟩
  | .hbm, ⟨2, _⟩ => ⟨S384x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x256, .f32⟩
  | .hbm, ⟨8, _⟩ => ⟨S_, .f32⟩
  | .hbm, ⟨9, _⟩ => ⟨S2048x128, .f32⟩
  | .hbm, ⟨10, _⟩ => ⟨S_, .f32⟩
  | .hbm, ⟨11, _⟩ => ⟨S2048x384, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x384, .f32⟩
  | .hbm, ⟨16, _⟩ => ⟨S2048x128, .f32⟩
  | .hbm, ⟨17, _⟩ => ⟨S2048x256, .f32⟩
  | .hbm, ⟨18, _⟩ => ⟨S2048x768, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.Offsets.lean ====
/- Where a query block's key tiles lie, and how many trips its two loops make. -/
module

public import proofs.«01_k».proof.Proof.Gen.KernelIdeal.Loops

@[expose] public section

namespace Cert.KernelIdeal

open Idealize.ShloMosaic Idealize.ShloMosaic.TcCoe Cert.KernelIdeal.Gen

/-- The main loop makes one trip per four key blocks before the query block. -/
theorem trips1_eq : ∀ i : grid0.Coords, (k0_t1_loop i).trips = (i 0).val / 4 := by decide +kernel

/-- The loop behind it, for a remainder, makes none. -/
theorem trips2_eq : ∀ i : grid0.Coords, (k0_t2_loop i).trips = 0 := by decide +kernel

theorem off1_eq : ∀ (i : grid0.Coords) (t : Fin (k0_t1_loop i).trips) (n : Fin 4),
    k0_off1 i t (BitVec.ofNat 32 n.val) = ![512 * t.val + 128 * n.val, 0] := by decide +kernel

theorem off3_eq : ∀ i : grid0.Coords, k0_cond2 i = 1#1 → k0_off3 i = ![512 * ((i 0).val / 4), 0] := by decide +kernel

theorem off4_eq : ∀ i : grid0.Coords, k0_cond2 i = 1#1 → k0_off4 i = ![512 * ((i 0).val / 4) + 128, 0] := by decide +kernel

theorem off5_eq : ∀ i : grid0.Coords, k0_cond3 i = 1#1 → k0_off5 i = ![128 * ((i 0).val - 1), 0] := by decide +kernel

theorem off6_eq : ∀ i : grid0.Coords, k0_off6 i = ![128 * (i 0).val, 0] := by decide +kernel

theorem cond2_iff : ∀ i : grid0.Coords, k0_cond2 i = 1#1 ↔ (i 0).val / 2 % 2 = 1 := by decide +kernel

theorem cond3_iff : ∀ i : grid0.Coords, k0_cond3 i = 1#1 ↔ (i 0).val % 2 = 1 := by decide +kernel

instance closedOff1_0 (i : grid0.Coords) (t : Fin (k0_t1_loop i).trips) : ClosedOff (k0_off1 i t 0#32) := ⟨_, off1_eq i t 0⟩
instance closedOff1_1 (i : grid0.Coords) (t : Fin (k0_t1_loop i).trips) : ClosedOff (k0_off1 i t 1#32) := ⟨_, off1_eq i t 1⟩
instance closedOff1_2 (i : grid0.Coords) (t : Fin (k0_t1_loop i).trips) : ClosedOff (k0_off1 i t 2#32) := ⟨_, off1_eq i t 2⟩
instance closedOff1_3 (i : grid0.Coords) (t : Fin (k0_t1_loop i).trips) : ClosedOff (k0_off1 i t 3#32) := ⟨_, off1_eq i t 3⟩

instance closedOff3 (i : grid0.Coords) [h : Fact (k0_cond2 i = 1#1)] : ClosedOff (k0_off3 i) := ⟨![512 * ((i 0).val / 4), 0], off3_eq i h.out⟩
instance closedOff4 (i : grid0.Coords) [h : Fact (k0_cond2 i = 1#1)] : ClosedOff (k0_off4 i) := ⟨![512 * ((i 0).val / 4) + 128, 0], off4_eq i h.out⟩
instance closedOff5 (i : grid0.Coords) [h : Fact (k0_cond3 i = 1#1)] : ClosedOff (k0_off5 i) := ⟨![128 * ((i 0).val - 1), 0], off5_eq i h.out⟩

end Cert.KernelIdeal

end
-- ==== Proof.Tile.lean ====
/- What one key tile contributes to a query block, as functions of the loaded vectors. -/
module

public import proofs.«01_k».proof.Proof.Gen.KernelIdeal.Skeleton

@[expose] public section

noncomputable section

namespace Cert.KernelIdeal.Sb

open Cert.KernelIdeal Cert.KernelIdeal.Gen Idealize.ShloMosaic

variable {F : FTy → Type} [FloatOps F]

/-- A constant tile. -/
abbrev fill (w : BitVec 32) : FVec F S512x128 .f32 := broadcast S512x128 (Scalar.ofBits .f32 w : F .f32)

/-- The logits of the four heads' queries against one key tile. -/
def zOf (q4 : FVec F S512x256 .bf16) (k : FVec F S128x256 .bf16) : FVec F S512x128 .f32 :=
  matmul dot_S512x256_S128x256_S512x128_1_1_0_0_n_n none q4 (shapeCast S128x256 k shapeCasts_S128x256_S128x256) (constant S512x128 .f32 0x00000000#32)

/-- The log of the probability of passing a key by. -/
def failOf (z : FVec F S512x128 .f32) : FVec F S512x128 .f32 :=
  subf (fill 0x00000000#32) (addf (maximumf z (fill 0x00000000#32)) (log (addf (fill 0x3F800000#32) (exp (subf (fill 0x00000000#32) (absf z))))))

/-- The log of the probability of taking it. -/
def hitOf (z : FVec F S512x128 .f32) : FVec F S512x128 .f32 := addf z (failOf z)

/-- A tile times a triangle of ones, the tile taken as its rounding and the rest. -/
def splitDot (v : FVec F S512x128 .f32) (tri : FVec F S128x128 .bf16) : FVec F S512x128 .f32 :=
  addf (matmul dot_S512x128_S128x128_S512x128_1_0_0_1_n_n none (truncf .bf16 v bitsLt_bf16_f32) tri (constant S512x128 .f32 0x00000000#32))
    (matmul dot_S512x128_S128x128_S512x128_1_0_0_1_n_n none (truncf .bf16 (subf v (extf .f32 (truncf .bf16 v bitsLt_bf16_f32) bitsLt_bf16_f32)) bitsLt_bf16_f32) tri (constant S512x128 .f32 0x00000000#32))

/-- The weight of each key of the tile. -/
def wOf (total seen : FVec F S512x1 .f32) (upto : FVec F S128x128 .bf16) (fail hit : FVec F S512x128 .f32) : FVec F S512x128 .f32 :=
  exp (addf hit (subf (broadcastTo S512x128 total broadcasts_S512x1_S512x128) (addf (broadcastTo S512x128 seen broadcasts_S512x1_S512x128) (splitDot fail upto))))

/-- The weight times its cotangent. -/
def gOf (do4 : FVec F S512x256 .bf16) (v : FVec F S128x256 .bf16) (w : FVec F S512x128 .f32) : FVec F S512x128 .f32 :=
  mulf (matmul dot_S512x256_S128x256_S512x128_1_1_0_0_n_n none do4 (shapeCast S128x256 v shapeCasts_S128x256_S128x256) (constant S512x128 .f32 0x00000000#32)) w

/-- The cotangent of the logits. -/
def dzOf (gseen : FVec F S512x1 .f32) (earlier : FVec F S128x128 .bf16) (hit g : FVec F S512x128 .f32) : FVec F S512x128 .f32 :=
  subf (mulf g (subf (fill 0x3F800000#32) (exp hit)))
    (mulf (addf (broadcastTo S512x128 gseen broadcasts_S512x1_S512x128) (splitDot g earlier)) (exp hit))

/-- What the tile adds to the queries' gradient, the four heads stacked. -/
def qPart (dz : FVec F S512x128 .f32) (k : FVec F S128x256 .bf16) : FVec F S512x256 .f32 :=
  matmul dot_S512x128_S128x256_S512x256_1_0_0_1_n_n none (truncf .bf16 dz bitsLt_bf16_f32) (shapeCast S128x256 k shapeCasts_S128x256_S128x256) (constant S512x256 .f32 0x00000000#32)

/-- A key-side gradient tile with this query block's products added. -/
def kAdd (d : FVec F S512x128 .f32) (x4 : FVec F S512x256 .bf16) (old : FVec F S128x256 .f32) : FVec F S128x256 .f32 :=
  addf (shapeCast S128x256 old shapeCasts_S128x256_S128x256)
    (matmul dot_S512x128_S512x256_S128x256_0_0_1_1_n_n none (truncf .bf16 d bitsLt_bf16_f32) x4 (constant S128x256 .f32 0x00000000#32))

/-- A running row sum past one more tile. -/
def rowAdd (s : FVec F S512x1 .f32) (v : FVec F S512x128 .f32) : FVec F S512x1 .f32 :=
  addf s (shapeCast S512x1 (multiReduction .add [1] S512 v 0x00000000#32 reduces_S512x128_S512 (.inl rfl) rfl) shapeCasts_S512_S512x1)

/-- What a query block's tiles share: its queries, its cotangents, its rows' totals, the triangles, the heads' lanes. -/
structure Env (F : FTy → Type) where
  q4 : FVec F S512x256 .bf16
  do4 : FVec F S512x256 .bf16
  total : FVec F S512x1 .f32
  upto : FVec F S128x128 .bf16
  earlier : FVec F S128x128 .bf16
  m0 : IVec S1x256 1
  m1 : IVec S1x256 1
  m2 : IVec S1x256 1
  m3 : IVec S1x256 1

namespace Env

variable (e : Env F) (s : FVec F S512x1 .f32 × FVec F S512x1 .f32) (k v : FVec F S128x256 .bf16)

/-- A tile wholly before its queries: its weights, their cotangents, the logits' cotangents, and the row sums past it. -/
def w : FVec F S512x128 .f32 := wOf e.total s.1 e.upto (failOf (zOf e.q4 k)) (hitOf (zOf e.q4 k))
def g : FVec F S512x128 .f32 := gOf e.do4 v (e.w s k)
def dz : FVec F S512x128 .f32 := dzOf s.2 e.earlier (hitOf (zOf e.q4 k)) (e.g s k v)
def next : FVec F S512x1 .f32 × FVec F S512x1 .f32 := (rowAdd s.1 (failOf (zOf e.q4 k)), rowAdd s.2 (e.g s k v))

/-- The tile on the diagonal: a key counts only for the queries after it. -/
def failD : FVec F S512x128 .f32 := select k0_pay163 (failOf (zOf e.q4 k)) (fill 0x00000000#32)
def wD : FVec F S512x128 .f32 := select k0_pay163 (wOf e.total s.1 e.upto (e.failD k) (hitOf (zOf e.q4 k))) (fill 0x00000000#32)
def gD : FVec F S512x128 .f32 := gOf e.do4 v (e.wD s k)
def dzD : FVec F S512x128 .f32 := select k0_pay163 (dzOf s.2 e.earlier (hitOf (zOf e.q4 k)) (e.gD s k v)) (fill 0x00000000#32)

/-- A queries' gradient with a stack of four heads' products merged in. -/
abbrev merge (dq : FVec F S128x256 .f32) (acc : FVec F S512x256 .f32) : FVec F S128x256 .f32 := k0_pay149 e.m0 e.m1 e.m2 e.m3 dq acc

end Env

end Cert.KernelIdeal.Sb

end
-- ==== Proof.Trip.lean ====
/- One trip of the loop over four key tiles. -/
module

public import proofs.«01_k».proof.Proof.Offsets
public import proofs.«01_k».proof.Proof.Tile
public import proofs.«01_k».proof.Proof.Gen.KernelIdeal.Frame
public import Idealize.ShloMosaic.Lib.Tactic
public import Idealize.ShloMosaic.Lib.Tactic.Stretches

@[expose] public section

set_option maxRecDepth 8192
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loops carry: the query block's gradient so far, the logs seen so far, the weights seen so far. -/
abbrev Carry (F : FTy → Type) : Type := FVec F S128x256 .f32 × FVec F S512x1 .f32 × FVec F S512x1 .f32

section

variable (c : Dev nD) (i : grid0.Coords) (arg1 : Memref sig .tc .vmem S128x256 .bf16) (harg1 : arg1.IsWhole)
  (arg2 : Memref sig .tc .vmem S2048x256 .bf16) (harg2 : arg2.IsWhole) (arg3 : Memref sig .tc .vmem S2048x256 .bf16) (harg3 : arg3.IsWhole)
  (arg4 : Memref sig .tc .vmem S1x512x1 .f32) (harg4 : arg4.IsWhole) (arg5 : Memref sig .tc .vmem S128x256 .f32) (harg5 : arg5.IsWhole)
  (arg6 : Memref sig .tc .vmem S128x256 .f32) (harg6 : arg6.IsWhole) (arg7 : Memref sig .tc .vmem S2048x256 .f32) (harg7 : arg7.IsWhole)
  (arg8 : Memref sig .tc .vmem S2048x256 .f32) (harg8 : arg8.IsWhole) (arg0 : BitVec 32)
  (v29 v31 v33 v35 : IVec S1x256 1) (v56 v75 : FVec F S512x256 .bf16) (v77 : FVec F S512x1 .f32) (v83 : FVec F S128x128 .bf16) (v88 : FVec F S128x128 .f32)
  (X2 : Buf (Elt F) (arg2.view.loc (c : Thread nD τ))) (X3 : Buf (Elt F) (arg3.view.loc (c : Thread nD τ)))

/-- What a trip touches: the keys and values, which it reads, and the two gradients it adds into. -/
abbrev Trip (f7 : Buf (Elt F) (arg7.view.loc (c : Thread nD τ))) (f8 : Buf (Elt F) (arg8.view.loc (c : Thread nD τ))) : sProp 𝕄 :=
  iprop((arg2.view.loc (c : Thread nD τ) ↦[arg2.view.set]{fullShare} X2) ∗ (arg3.view.loc (c : Thread nD τ) ↦[arg3.view.set]{fullShare} X3)
    ∗ (arg7.view.loc (c : Thread nD τ) ↦[arg7.view.set]{fullShare} f7) ∗ (arg8.view.loc (c : Thread nD τ) ↦[arg8.view.set]{fullShare} f8))

set_option backward.proofsInPublic true in
/-- One trip at a symbolic `t`: the pieces it stores and the values it hands on, from the run. -/
def trip (t : Fin (k0_t1_loop i).trips) (f7 : Buf (Elt F) (arg7.view.loc (c : Thread nD τ))) (f8 : Buf (Elt F) (arg8.view.loc (c : Thread nD τ))) (a1 : FVec F S128x256 .f32) (a2 a3 : FVec F S512x1 .f32) :
    Σ' (L7 L8 : List (View.Piece (Elt F) S2048x256 .f32)), { a' : Carry F //
      Trip c arg2 arg3 arg7 arg8 X2 X3 f7 f8 ⊢ wp frame (wpE (defs₀ (F := F)) Variants.none (c : Thread nD τ) none) Set.univ
        (k0_t1_body i arg1 harg1 arg2 harg2 arg3 harg3 arg4 harg4 arg5 harg5 arg6 harg6 arg7 harg7 arg8 harg8 arg0 v29 v31 v33 v35 v56 v75 v77 v83 v88 t (a1, a2, a3))
        (fun b => iprop(⌜b = a'⌝ ∗ Trip c arg2 arg3 arg7 arg8 X2 X3 (arg7.view.writes (Elt F) f7 L7) (arg8.view.writes (Elt F) f8 L8))) } := by
  refine ⟨?_, ?_, ?_, ?run⟩
  case run =>
    iintro ⟨H2, H3, H7, H8⟩
    unfold k0_t1_body
    sl_exec
    sl_step
    isplitr
    · ipureintro; rfl
    sl_close

/-- The rectangle of the trip's `n`-th tile. -/
abbrev R1 (t : Fin (k0_t1_loop i).trips) (n : Fin 4) : Rect S2048x256 :=
  Rect.unit (s := S2048x256) (k0_off1 i t (BitVec.ofNat 32 n.val)) S128x256.size (k0_off1_inb i t n)

/-- The key and value tiles a trip reads. -/
abbrev kT (t : Fin (k0_t1_loop i).trips) (n : Fin 4) : FVec F S128x256 .bf16 := arg2.view.readAt (Elt F) (R1 i t n).toLoadRect X2
abbrev vT (t : Fin (k0_t1_loop i).trips) (n : Fin 4) : FVec F S128x256 .bf16 := arg3.view.readAt (Elt F) (R1 i t n).toLoadRect X3

/-- The row sums before the trip's `n`-th tile. -/
def sT (e : Env F) (t : Fin (k0_t1_loop i).trips) (a : FVec F S512x1 .f32 × FVec F S512x1 .f32) : ℕ → FVec F S512x1 .f32 × FVec F S512x1 .f32
  | 0 => a
  | n + 1 => e.next (sT e t a n) (kT c i arg2 X2 t (Fin.ofNat 4 n)) (vT c i arg3 X3 t (Fin.ofNat 4 n))

abbrev wT (e : Env F) (t : Fin (k0_t1_loop i).trips) (a : FVec F S512x1 .f32 × FVec F S512x1 .f32) (n : Fin 4) : FVec F S512x128 .f32 :=
  e.w (sT c i arg2 arg3 X2 X3 e t a n.val) (kT c i arg2 X2 t n)
abbrev dzT (e : Env F) (t : Fin (k0_t1_loop i).trips) (a : FVec F S512x1 .f32 × FVec F S512x1 .f32) (n : Fin 4) : FVec F S512x128 .f32 :=
  e.dz (sT c i arg2 arg3 X2 X3 e t a n.val) (kT c i arg2 X2 t n) (vT c i arg3 X3 t n)

/-- A key-side gradient with one tile's products added. -/
abbrev addTile (arg : Memref sig .tc .vmem S2048x256 .f32) (o : Fin 2 → ℕ) (ho : ∀ a, o a + S128x256.size a ≤ S2048x256.size a)
    (d : FVec F S512x128 .f32) (x4 : FVec F S512x256 .bf16)
    (f : Buf (Elt F) (arg.view.loc (c : Thread nD τ))) : Buf (Elt F) (arg.view.loc (c : Thread nD τ)) :=
  arg.view.writes (Elt F) f [⟨Rect.unit (s := S2048x256) o S128x256.size ho, kAdd d x4 (arg.view.readAt (Elt F) (Rect.unit (s := S2048x256) o S128x256.size ho).toLoadRect f)⟩]

/-- The row sums after the trip. -/
theorem trip_sums (t : Fin (k0_t1_loop i).trips) (f7 : Buf (Elt F) (arg7.view.loc (c : Thread nD τ))) (f8 : Buf (Elt F) (arg8.view.loc (c : Thread nD τ)))
    (a1 : FVec F S128x256 .f32) (a2 a3 : FVec F S512x1 .f32) :
    (trip c i arg1 harg1 arg2 harg2 arg3 harg3 arg4 harg4 arg5 harg5 arg6 harg6 arg7 harg7 arg8 harg8 arg0 v29 v31 v33 v35 v56 v75 v77 v83 v88 X2 X3 t f7 f8 a1 a2 a3).2.2.1.2 = sT c i arg2 arg3 X2 X3 ⟨v56, v75, v77, v83, k0_pay143 v88, v29, v31, v33, v35⟩ t (a2, a3) 4 := by
  unfold trip
  dsimp only
  sl_open_run
  sl_open_pay
  rfl

/-- The queries' gradient after the trip. -/
theorem trip_q (t : Fin (k0_t1_loop i).trips) (f7 : Buf (Elt F) (arg7.view.loc (c : Thread nD τ))) (f8 : Buf (Elt F) (arg8.view.loc (c : Thread nD τ)))
    (a1 : FVec F S128x256 .f32) (a2 a3 : FVec F S512x1 .f32) :
    (trip c i arg1 harg1 arg2 harg2 arg3 harg3 arg4 harg4 arg5 harg5 arg6 harg6 arg7 harg7 arg8 harg8 arg0 v29 v31 v33 v35 v56 v75 v77 v83 v88 X2 X3 t f7 f8 a1 a2 a3).2.2.1.1
      = k0_pay149 v29 v31 v33 v35 a1 (addf (addf (addf (qPart (dzT c i arg2 arg3 X2 X3 ⟨v56, v75, v77, v83, k0_pay143 v88, v29, v31, v33, v35⟩ t (a2, a3) 0) (kT c i arg2 X2 t 0))
        (qPart (dzT c i arg2 arg3 X2 X3 ⟨v56, v75, v77, v83, k0_pay143 v88, v29, v31, v33, v35⟩ t (a2, a3) 1) (kT c i arg2 X2 t 1)))
        (qPart (dzT c i arg2 arg3 X2 X3 ⟨v56, v75, v77, v83, k0_pay143 v88, v29, v31, v33, v35⟩ t (a2, a3) 2) (kT c i arg2 X2 t 2)))
        (qPart (dzT c i arg2 arg3 X2 X3 ⟨v56, v75, v77, v83, k0_pay143 v88, v29, v31, v33, v35⟩ t (a2, a3) 3) (kT c i arg2 X2 t 3))) := by
  unfold trip
  dsimp only
  sl_open_run
  sl_open_pay
  rfl

/-- The keys' gradient after the trip. -/
theorem trip_dk (t : Fin (k0_t1_loop i).trips) (f7 : Buf (Elt F) (arg7.view.loc (c : Thread nD τ))) (f8 : Buf (Elt F) (arg8.view.loc (c : Thread nD τ)))
    (a1 : FVec F S128x256 .f32) (a2 a3 : FVec F S512x1 .f32) :
    arg7.view.writes (Elt F) f7 (trip c i arg1 harg1 arg2 harg2 arg3 harg3 arg4 harg4 arg5 harg5 arg6 harg6 arg7 harg7 arg8 harg8 arg0 v29 v31 v33 v35 v56 v75 v77 v83 v88 X2 X3 t f7 f8 a1 a2 a3).1
      = (addTile c arg7 (k0_off1 i t 3#32) (k0_off1_inb i t 3) (dzT c i arg2 arg3 X2 X3 ⟨v56, v75, v77, v83, k0_pay143 v88, v29, v31, v33, v35⟩ t (a2, a3) 3) v56 (addTile c arg7 (k0_off1 i t 2#32) (k0_off1_inb i t 2) (dzT c i arg2 arg3 X2 X3 ⟨v56, v75, v77, v83, k0_pay143 v88, v29, v31, v33, v35⟩ t (a2, a3) 2) v56 (addTile c arg7 (k0_off1 i t 1#32) (k0_off1_inb i t 1) (dzT c i arg2 arg3 X2 X3 ⟨v56, v75, v77, v83, k0_pay143 v88, v29, v31, v33, v35⟩ t (a2, a3) 1) v56 (addTile c arg7 (k0_off1 i t 0#32) (k0_off1_inb i t 0) (dzT c i arg2 arg3 X2 X3 ⟨v56, v75, v77, v83, k0_pay143 v88, v29, v31, v33, v35⟩ t (a2, a3) 0) v56 f7)))) := by
  unfold trip
  dsimp only
  sl_open_run
  sl_open_pay
  rfl

/-- The values' gradient after the trip. -/
theorem trip_dv (t : Fin (k0_t1_loop i).trips) (f7 : Buf (Elt F) (arg7.view.loc (c : Thread nD τ))) (f8 : Buf (Elt F) (arg8.view.loc (c : Thread nD τ)))
    (a1 : FVec F S128x256 .f32) (a2 a3 : FVec F S512x1 .f32) :
    arg8.view.writes (Elt F) f8 (trip c i arg1 harg1 arg2 harg2 arg3 harg3 arg4 harg4 arg5 harg5 arg6 harg6 arg7 harg7 arg8 harg8 arg0 v29 v31 v33 v35 v56 v75 v77 v83 v88 X2 X3 t f7 f8 a1 a2 a3).2.1
      = (addTile c arg8 (k0_off1 i t 3#32) (k0_off1_inb i t 3) (wT c i arg2 arg3 X2 X3 ⟨v56, v75, v77, v83, k0_pay143 v88, v29, v31, v33, v35⟩ t (a2, a3) 3) v75 (addTile c arg8 (k0_off1 i t 2#32) (k0_off1_inb i t 2) (wT c i arg2 arg3 X2 X3 ⟨v56, v75, v77, v83, k0_pay143 v88, v29, v31, v33, v35⟩ t (a2, a3) 2) v75 (addTile c arg8 (k0_off1 i t 1#32) (k0_off1_inb i t 1) (wT c i arg2 arg3 X2 X3 ⟨v56, v75, v77, v83, k0_pay143 v88, v29, v31, v33, v35⟩ t (a2, a3) 1) v75 (addTile c arg8 (k0_off1 i t 0#32) (k0_off1_inb i t 0) (wT c i arg2 arg3 X2 X3 ⟨v56, v75, v77, v83, k0_pay143 v88, v29, v31, v33, v35⟩ t (a2, a3) 0) v75 f8)))) := by
  unfold trip
  dsimp only
  sl_open_run
  sl_open_pay
  rfl

end

end Cert.KernelIdeal.Sb

end
-- ==== Proof.Loop.lean ====
/- The loop over four key tiles, trip by trip. -/
module

public import proofs.«01_k».proof.Proof.Trip
public import Idealize.ShloMosaic.Lib.Tactic
public import Idealize.ShloMosaic.Lib.Tactic.Stretches

@[expose] public section

set_option maxRecDepth 8192
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg1 : Memref sig .tc .vmem S128x256 .bf16) (harg1 : arg1.IsWhole)
  (arg2 : Memref sig .tc .vmem S2048x256 .bf16) (harg2 : arg2.IsWhole) (arg3 : Memref sig .tc .vmem S2048x256 .bf16) (harg3 : arg3.IsWhole)
  (arg4 : Memref sig .tc .vmem S1x512x1 .f32) (harg4 : arg4.IsWhole) (arg5 : Memref sig .tc .vmem S128x256 .f32) (harg5 : arg5.IsWhole)
  (arg6 : Memref sig .tc .vmem S128x256 .f32) (harg6 : arg6.IsWhole) (arg7 : Memref sig .tc .vmem S2048x256 .f32) (harg7 : arg7.IsWhole)
  (arg8 : Memref sig .tc .vmem S2048x256 .f32) (harg8 : arg8.IsWhole) (arg0 : BitVec 32)
  (v29 v31 v33 v35 : IVec S1x256 1) (v56 v75 : FVec F S512x256 .bf16) (v77 : FVec F S512x1 .f32) (v83 : FVec F S128x128 .bf16) (v88 : FVec F S128x128 .f32)
  (X2 : Buf (Elt F) (arg2.view.loc (c : Thread nD τ))) (X3 : Buf (Elt F) (arg3.view.loc (c : Thread nD τ)))

/-- What the loop carries and the two gradients it adds into. -/
abbrev LoopSt : Type := Carry F × Buf (Elt F) (arg7.view.loc (c : Thread nD τ)) × Buf (Elt F) (arg8.view.loc (c : Thread nD τ))

/-- One trip as a function of those. -/
def tripSt (e : Env F) (t : Fin (k0_t1_loop i).trips) (s : LoopSt (F := F) c arg7 arg8) : LoopSt (F := F) c arg7 arg8 :=
  ((e.merge s.1.1 (addf (addf (addf (qPart (dzT c i arg2 arg3 X2 X3 e t s.1.2 0) (kT c i arg2 X2 t 0)) (qPart (dzT c i arg2 arg3 X2 X3 e t s.1.2 1) (kT c i arg2 X2 t 1)))
      (qPart (dzT c i arg2 arg3 X2 X3 e t s.1.2 2) (kT c i arg2 X2 t 2))) (qPart (dzT c i arg2 arg3 X2 X3 e t s.1.2 3) (kT c i arg2 X2 t 3))),
    sT c i arg2 arg3 X2 X3 e t s.1.2 4),
   addTile c arg7 (k0_off1 i t 3#32) (k0_off1_inb i t 3) (dzT c i arg2 arg3 X2 X3 e t s.1.2 3) e.q4
    (addTile c arg7 (k0_off1 i t 2#32) (k0_off1_inb i t 2) (dzT c i arg2 arg3 X2 X3 e t s.1.2 2) e.q4
      (addTile c arg7 (k0_off1 i t 1#32) (k0_off1_inb i t 1) (dzT c i arg2 arg3 X2 X3 e t s.1.2 1) e.q4
        (addTile c arg7 (k0_off1 i t 0#32) (k0_off1_inb i t 0) (dzT c i arg2 arg3 X2 X3 e t s.1.2 0) e.q4 s.2.1))),
   addTile c arg8 (k0_off1 i t 3#32) (k0_off1_inb i t 3) (wT c i arg2 arg3 X2 X3 e t s.1.2 3) e.do4
    (addTile c arg8 (k0_off1 i t 2#32) (k0_off1_inb i t 2) (wT c i arg2 arg3 X2 X3 e t s.1.2 2) e.do4
      (addTile c arg8 (k0_off1 i t 1#32) (k0_off1_inb i t 1) (wT c i arg2 arg3 X2 X3 e t s.1.2 1) e.do4
        (addTile c arg8 (k0_off1 i t 0#32) (k0_off1_inb i t 0) (wT c i arg2 arg3 X2 X3 e t s.1.2 0) e.do4 s.2.2))))

/-- The trips so far. -/
def loopSt (e : Env F) (s : LoopSt (F := F) c arg7 arg8) : ℕ → LoopSt (F := F) c arg7 arg8
  | 0 => s
  | k + 1 => if h : k < (k0_t1_loop i).trips then tripSt c i arg2 arg3 arg7 arg8 X2 X3 e ⟨k, h⟩ (loopSt e s k) else loopSt e s k

theorem loopSt_succ (e : Env F) (s : LoopSt (F := F) c arg7 arg8) (t : Fin (k0_t1_loop i).trips) :
    loopSt c i arg2 arg3 arg7 arg8 X2 X3 e s (t.val + 1) = tripSt c i arg2 arg3 arg7 arg8 X2 X3 e t (loopSt c i arg2 arg3 arg7 arg8 X2 X3 e s t.val) := by
  rw [loopSt, dif_pos t.isLt]

local notation "TR" => trip c i arg1 harg1 arg2 harg2 arg3 harg3 arg4 harg4 arg5 harg5 arg6 harg6 arg7 harg7 arg8 harg8 arg0 v29 v31 v33 v35 v56 v75 v77 v83 v88 X2 X3

/-- One trip's triple with its results named. -/
theorem trip_post (t : Fin (k0_t1_loop i).trips) (f7 : Buf (Elt F) (arg7.view.loc (c : Thread nD τ))) (f8 : Buf (Elt F) (arg8.view.loc (c : Thread nD τ))) (a1 : FVec F S128x256 .f32) (a2 a3 : FVec F S512x1 .f32)
    (s : LoopSt (F := F) c arg7 arg8)
    (h1 : (TR t f7 f8 a1 a2 a3).2.2.1.1 = s.1.1) (h2 : (TR t f7 f8 a1 a2 a3).2.2.1.2 = s.1.2)
    (h7 : arg7.view.writes (Elt F) f7 (TR t f7 f8 a1 a2 a3).1 = s.2.1) (h8 : arg8.view.writes (Elt F) f8 (TR t f7 f8 a1 a2 a3).2.1 = s.2.2) :
    Trip c arg2 arg3 arg7 arg8 X2 X3 f7 f8 ⊢ wp frame (wpE (defs₀ (F := F)) Variants.none (c : Thread nD τ) none) Set.univ
        (k0_t1_body i arg1 harg1 arg2 harg2 arg3 harg3 arg4 harg4 arg5 harg5 arg6 harg6 arg7 harg7 arg8 harg8 arg0 v29 v31 v33 v35 v56 v75 v77 v83 v88 t (a1, a2, a3))
        (fun b => iprop(⌜b = s.1⌝ ∗ Trip c arg2 arg3 arg7 arg8 X2 X3 s.2.1 s.2.2)) := by
  rw [← h7, ← h8, ← (Prod.ext h1 h2 : (TR t f7 f8 a1 a2 a3).2.2.1 = s.1)]
  exact (TR t f7 f8 a1 a2 a3).2.2.2

/-- One trip's triple over the state. -/
theorem trip_step (t : Fin (k0_t1_loop i).trips) (s : LoopSt (F := F) c arg7 arg8) :
    Trip c arg2 arg3 arg7 arg8 X2 X3 s.2.1 s.2.2 ⊢ wp frame (wpE (defs₀ (F := F)) Variants.none (c : Thread nD τ) none) Set.univ
        (k0_t1_body i arg1 harg1 arg2 harg2 arg3 harg3 arg4 harg4 arg5 harg5 arg6 harg6 arg7 harg7 arg8 harg8 arg0 v29 v31 v33 v35 v56 v75 v77 v83 v88 t s.1)
        (fun b => iprop(⌜b = (tripSt c i arg2 arg3 arg7 arg8 X2 X3 ⟨v56, v75, v77, v83, k0_pay143 v88, v29, v31, v33, v35⟩ t s).1⌝
          ∗ Trip c arg2 arg3 arg7 arg8 X2 X3 (tripSt c i arg2 arg3 arg7 arg8 X2 X3 ⟨v56, v75, v77, v83, k0_pay143 v88, v29, v31, v33, v35⟩ t s).2.1
              (tripSt c i arg2 arg3 arg7 arg8 X2 X3 ⟨v56, v75, v77, v83, k0_pay143 v88, v29, v31, v33, v35⟩ t s).2.2)) := by
  obtain ⟨⟨a1, a2, a3⟩, f7, f8⟩ := s
  exact trip_post _ _ _ _ _ _ _ _ _ _ _ _ _ _ _ _ _ _ _ _ _ _ _ _ _ _ _ _ _ _ t f7 f8 a1 a2 a3 _ (trip_q ..) (trip_sums ..) (trip_dk ..) (trip_dv ..)

set_option warn.classDefReducibility false in
/-- The loop's invariant: what it carries and the two gradients are the trips' so far. -/
@[sl_loop] def loopInv1 (f7 : Buf (Elt F) (arg7.view.loc (c : Thread nD τ))) (f8 : Buf (Elt F) (arg8.view.loc (c : Thread nD τ)))
    (init : FVec F S128x256 .f32 × FVec F S512x1 .f32 × FVec F S512x1 .f32) :
    LoopInvTy_k0_t1 (F := F) Unit ℕ (UR sig nD τ) ℕ Variants.none c none Set.univ i arg1 harg1 arg2 harg2 arg3 harg3 arg4 harg4 arg5 harg5 arg6 harg6 arg7 harg7 arg8 harg8
      arg0 v29 v31 v33 v35 v56 v75 v77 v83 v88 init where
  inv k acc := iprop(⌜acc = (loopSt c i arg2 arg3 arg7 arg8 X2 X3 ⟨v56, v75, v77, v83, k0_pay143 v88, v29, v31, v33, v35⟩ (init, f7, f8) k).1⌝
    ∗ Trip c arg2 arg3 arg7 arg8 X2 X3 (loopSt c i arg2 arg3 arg7 arg8 X2 X3 ⟨v56, v75, v77, v83, k0_pay143 v88, v29, v31, v33, v35⟩ (init, f7, f8) k).2.1
        (loopSt c i arg2 arg3 arg7 arg8 X2 X3 ⟨v56, v75, v77, v83, k0_pay143 v88, v29, v31, v33, v35⟩ (init, f7, f8) k).2.2)
  step k acc := by
    rw [loopSt_succ]
    iintro ⟨%ha, H⟩
    subst ha
    iapply trip_step
    iexact H

set_option warn.classDefReducibility false in
/-- The second loop makes no trip. -/
@[sl_loop] def loopInv2 (v113 : BitVec 32) (init : FVec F S128x256 .f32 × FVec F S512x1 .f32 × FVec F S512x1 .f32) :
    LoopInvTy_k0_t2 (F := F) Unit ℕ (UR sig nD τ) ℕ Variants.none c none Set.univ i arg1 harg1 arg2 harg2 arg3 harg3 arg4 harg4 arg5 harg5 arg6 harg6 arg7 harg7 arg8 harg8
      arg0 v29 v31 v33 v35 v56 v75 v77 v83 v88 v113 init where
  inv k acc := iprop(⌜acc = init⌝)
  step k _ := (Nat.not_lt_zero _ (Nat.lt_of_lt_of_eq k.isLt (trips2_eq i))).elim

end

end Cert.KernelIdeal.Sb
-- ==== Proof.Tiles.lean ====
/- The tiles after the loop: two, one, and the tile on the diagonal. -/
module

public import proofs.«01_k».proof.Proof.Loop
public import Idealize.ShloMosaic.Lib.Tactic
public import Idealize.ShloMosaic.Lib.Tactic.Stretches

@[expose] public section

set_option maxRecDepth 8192
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg1 : Memref sig .tc .vmem S128x256 .bf16) (harg1 : arg1.IsWhole)
  (arg2 : Memref sig .tc .vmem S2048x256 .bf16) (harg2 : arg2.IsWhole) (arg3 : Memref sig .tc .vmem S2048x256 .bf16) (harg3 : arg3.IsWhole)
  (arg4 : Memref sig .tc .vmem S1x512x1 .f32) (harg4 : arg4.IsWhole) (arg5 : Memref sig .tc .vmem S128x256 .f32) (harg5 : arg5.IsWhole)
  (arg6 : Memref sig .tc .vmem S128x256 .f32) (harg6 : arg6.IsWhole) (arg7 : Memref sig .tc .vmem S2048x256 .f32) (harg7 : arg7.IsWhole)
  (arg8 : Memref sig .tc .vmem S2048x256 .f32) (harg8 : arg8.IsWhole) (arg0 : BitVec 32)
  (v29 v31 v33 v35 : IVec S1x256 1) (v56 v75 : FVec F S512x256 .bf16) (v77 : FVec F S512x1 .f32) (v83 : FVec F S128x128 .bf16) (v88 : FVec F S128x128 .f32)
  (X2 : Buf (Elt F) (arg2.view.loc (c : Thread nD τ))) (X3 : Buf (Elt F) (arg3.view.loc (c : Thread nD τ)))

/-- A key or value tile at rows `o`. -/
abbrev tileAt (arg : Memref sig .tc .vmem S2048x256 .bf16) (X : Buf (Elt F) (arg.view.loc (c : Thread nD τ))) (o : Fin 2 → ℕ) (ho : ∀ a, o a + S128x256.size a ≤ S2048x256.size a) : FVec F S128x256 .bf16 :=
  arg.view.readAt (Elt F) (Rect.unit (s := S2048x256) o S128x256.size ho).toLoadRect X

/-- `addTile` where the tile is read from `old`. -/
abbrev addTileOf (arg : Memref sig .tc .vmem S2048x256 .f32) (o : Fin 2 → ℕ) (ho : ∀ a, o a + S128x256.size a ≤ S2048x256.size a)
    (d : FVec F S512x128 .f32) (x4 : FVec F S512x256 .bf16) (old f : Buf (Elt F) (arg.view.loc (c : Thread nD τ))) : Buf (Elt F) (arg.view.loc (c : Thread nD τ)) :=
  arg.view.writes (Elt F) f [⟨Rect.unit (s := S2048x256) o S128x256.size ho, kAdd d x4 (arg.view.readAt (Elt F) (Rect.unit (s := S2048x256) o S128x256.size ho).toLoadRect old)⟩]

/-- Two tiles, where the block's number asks for them. -/
def pairSt (e : Env F) (s : LoopSt (F := F) c arg7 arg8) : LoopSt (F := F) c arg7 arg8 :=
  if h : k0_cond2 i = 1#1 then
    let k0 := tileAt c arg2 X2 (k0_off3 i) (k0_off3_inb i h); let v0 := tileAt c arg3 X3 (k0_off3 i) (k0_off3_inb i h)
    let k1 := tileAt c arg2 X2 (k0_off4 i) (k0_off4_inb i h); let v1 := tileAt c arg3 X3 (k0_off4 i) (k0_off4_inb i h)
    let s1 := e.next s.1.2 k0 v0
    ((e.merge s.1.1 (addf (qPart (e.dz s.1.2 k0 v0) k0) (qPart (e.dz s1 k1 v1) k1)), e.next s1 k1 v1),
      addTileOf c arg7 (k0_off4 i) (k0_off4_inb i h) (e.dz s1 k1 v1) e.q4 s.2.1 (addTile c arg7 (k0_off3 i) (k0_off3_inb i h) (e.dz s.1.2 k0 v0) e.q4 s.2.1),
      addTileOf c arg8 (k0_off4 i) (k0_off4_inb i h) (e.w s1 k1) e.do4 s.2.2 (addTile c arg8 (k0_off3 i) (k0_off3_inb i h) (e.w s.1.2 k0) e.do4 s.2.2))
  else s

/-- One tile, where the block's number is odd. -/
def oneSt (e : Env F) (s : LoopSt (F := F) c arg7 arg8) : LoopSt (F := F) c arg7 arg8 :=
  if h : k0_cond3 i = 1#1 then
    let k0 := tileAt c arg2 X2 (k0_off5 i) (k0_off5_inb i h); let v0 := tileAt c arg3 X3 (k0_off5 i) (k0_off5_inb i h)
    ((e.merge s.1.1 (qPart (e.dz s.1.2 k0 v0) k0), e.next s.1.2 k0 v0),
      addTile c arg7 (k0_off5 i) (k0_off5_inb i h) (e.dz s.1.2 k0 v0) e.q4 s.2.1,
      addTile c arg8 (k0_off5 i) (k0_off5_inb i h) (e.w s.1.2 k0) e.do4 s.2.2)
  else s

/-- What is carried to the diagonal. -/
def preSt (e : Env F) (s : LoopSt (F := F) c arg7 arg8) : LoopSt (F := F) c arg7 arg8 :=
  oneSt c i arg2 arg3 arg7 arg8 X2 X3 e (pairSt c i arg2 arg3 arg7 arg8 X2 X3 e (loopSt c i arg2 arg3 arg7 arg8 X2 X3 e s (Scf.trips (k0_t1_loop i).lb (k0_t1_loop i).ub (k0_t1_loop i).st)))

local notation "EV" => (Env.mk v56 v75 v77 v83 (k0_pay143 v88) v29 v31 v33 v35 : Env F)

/-- All tiles before the diagonal. -/
theorem part22_run (f7 : Buf (Elt F) (arg7.view.loc (c : Thread nD τ))) (f8 : Buf (Elt F) (arg8.view.loc (c : Thread nD τ))) (s : LoopSt (F := F) c arg7 arg8)
    (hs : s = preSt c i arg2 arg3 arg7 arg8 X2 X3 EV ((k0_pay145, k0_pay144, k0_pay144), f7, f8)) :
    Trip c arg2 arg3 arg7 arg8 X2 X3 f7 f8 ⊢ wp frame (wpE (defs₀ (F := F)) Variants.none (c : Thread nD τ) none) Set.univ
        (k0_part22 i arg1 harg1 arg2 harg2 arg3 harg3 arg4 harg4 arg5 harg5 arg6 harg6 arg7 harg7 arg8 harg8 arg0 v29 v31 v33 v35 v56 v75 v77 v83 v88)
        (fun b => iprop(⌜b = ⟨k0_pay143 v88, s.1.1, s.1.2.1, s.1.2.2, 128#32⟩⌝ ∗ Trip c arg2 arg3 arg7 arg8 X2 X3 s.2.1 s.2.2)) := by
  by_cases h2 : k0_cond2 i = 1#1 <;> by_cases h3 : k0_cond3 i = 1#1
  all_goals
    suffices H : ∃ (a : Carry F) (g7 : Buf (Elt F) (arg7.view.loc (c : Thread nD τ))) (g8 : Buf (Elt F) (arg8.view.loc (c : Thread nD τ))), (a = s.1 ∧ g7 = s.2.1 ∧ g8 = s.2.2) ∧
        (Trip c arg2 arg3 arg7 arg8 X2 X3 f7 f8 ⊢ wp frame (wpE (defs₀ (F := F)) Variants.none (c : Thread nD τ) none) Set.univ
        (k0_part22 i arg1 harg1 arg2 harg2 arg3 harg3 arg4 harg4 arg5 harg5 arg6 harg6 arg7 harg7 arg8 harg8 arg0 v29 v31 v33 v35 v56 v75 v77 v83 v88)
        (fun b => iprop(⌜b = ⟨k0_pay143 v88, a.1, a.2.1, a.2.2, 128#32⟩⌝ ∗ Trip c arg2 arg3 arg7 arg8 X2 X3 g7 g8))) by
      obtain ⟨a, g7, g8, ⟨rfl, rfl, rfl⟩, H⟩ := H; exact H
    subst hs
    refine ⟨(?_, ?_, ?_), ?_, ?_, ⟨?_, ?_, ?_⟩, ?_⟩
    rotate_left 8
    · iintro ⟨H2, H3, H7, H8⟩
      try have := Fact.mk (p := k0_cond2 i = 1#1) h2
      try have := Fact.mk (p := k0_cond3 i = 1#1) h3
      sl_exec
      sl_step
      isplitr
      · ipureintro; rfl
      sl_close
    all_goals
      (first | rw [preSt, oneSt, pairSt, dif_pos h2, dif_pos h3] | rw [preSt, oneSt, pairSt, dif_neg h2, dif_pos h3] | rw [preSt, oneSt, pairSt, dif_pos h2, dif_neg h3] | rw [preSt, oneSt, pairSt, dif_neg h2, dif_neg h3])
    all_goals
      sl_open_run
      generalize loopSt c i arg2 arg3 arg7 arg8 X2 X3 EV ((k0_pay145, k0_pay144, k0_pay144), f7, f8) (Scf.trips (k0_t1_loop i).lb (k0_t1_loop i).ub (k0_t1_loop i).st) = st
      sl_open_pay; rfl

end

end Cert.KernelIdeal.Sb
-- ==== Proof.Body.lean ====
/- The kernel's body at one grid point. -/
module

public import proofs.«01_k».proof.Proof.Tiles
public import Idealize.ShloMosaic.Lib.Tactic
public import Idealize.ShloMosaic.Lib.Tactic.Stretches

@[expose] public section

set_option maxRecDepth 8192
set_option maxHeartbeats 4000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg1 : Memref sig .tc .vmem S128x256 .bf16) (harg1 : arg1.IsWhole)
  (arg2 : Memref sig .tc .vmem S2048x256 .bf16) (harg2 : arg2.IsWhole) (arg3 : Memref sig .tc .vmem S2048x256 .bf16) (harg3 : arg3.IsWhole)
  (arg4 : Memref sig .tc .vmem S1x512x1 .f32) (harg4 : arg4.IsWhole) (arg5 : Memref sig .tc .vmem S128x256 .f32) (harg5 : arg5.IsWhole)
  (arg6 : Memref sig .tc .vmem S128x256 .f32) (harg6 : arg6.IsWhole) (arg7 : Memref sig .tc .vmem S2048x256 .f32) (harg7 : arg7.IsWhole)
  (arg8 : Memref sig .tc .vmem S2048x256 .f32) (harg8 : arg8.IsWhole)
  (X1 : Buf (Elt F) (arg1.view.loc (c : Thread nD τ))) (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))

/-- Whether the point is the first. -/
abbrev First : Prop := Scalar.cmpi .ne (Scalar.extui (Scalar.cmpi .eq (BitVec.ofNat 32 (i 0).val) 0#32)) (0#32 : BitVec 32) = 1#1

/-- The whole of a query block. -/
abbrev RQ : Rect S128x256 := Rect.unit (s := S128x256) ![0, 0] S128x256.size inb_S128x256_S128x256_0_0

/-- The whole of a key-side gradient. -/
abbrev RK : Rect S2048x256 := Rect.unit (s := S2048x256) ![0, 0] S2048x256.size inb_S2048x256_S2048x256_0_0

/-- What a query block's tiles share, from the block's queries, totals and cotangents. -/
def mkEnv (q : FVec F S128x256 .bf16) (tot : FVec F S1x512x1 .f32) (d : FVec F S128x256 .f32) : Env F :=
  ⟨k0_pay138 k0_pay132 k0_pay133 k0_pay134 k0_pay135 (k0_pay136 q) k0_pay137, k0_pay139 k0_pay132 k0_pay133 k0_pay134 k0_pay135 d, k0_pay140 tot, k0_pay141,
    k0_pay143 k0_pay142, k0_pay132, k0_pay133, k0_pay134, k0_pay135⟩

abbrev envAt : Env F :=
  mkEnv (arg1.view.readAt (Elt F) RQ.toLoadRect X1) (arg4.view.readAt (Elt F) (Rect.unit (s := S1x512x1) ![0, 0, 0] S1x512x1.size inb_S1x512x1_S1x512x1_0_0_0).toLoadRect X4)
    (arg5.view.readAt (Elt F) RQ.toLoadRect X5)

open Classical in
/-- The gradients of keys and values as the point's tiles find them: zeroed at the first point. -/
def startSt (f7 : Buf (Elt F) (arg7.view.loc (c : Thread nD τ))) (f8 : Buf (Elt F) (arg8.view.loc (c : Thread nD τ))) : LoopSt (F := F) c arg7 arg8 :=
  ((k0_pay145, k0_pay144, k0_pay144),
    if First i then arg7.view.writes (Elt F) f7 [⟨RK, k0_pay129⟩] else f7, if First i then arg8.view.writes (Elt F) f8 [⟨RK, k0_pay130⟩] else f8)

abbrev kD : FVec F S128x256 .bf16 := tileAt c arg2 X2 (k0_off6 i) (k0_off6_inb i)
abbrev vD : FVec F S128x256 .bf16 := tileAt c arg3 X3 (k0_off6 i) (k0_off6_inb i)

/-- The queries' gradient at the end, from what was carried to the diagonal. -/
def dqEnd (e : Env F) (s : LoopSt (F := F) c arg7 arg8) : FVec F S128x256 .f32 :=
  mulf (e.merge s.1.1 (qPart (e.dzD s.1.2 (kD c i arg2 X2) (vD c i arg3 X3)) (kD c i arg2 X2))) (broadcast S128x256 (Scalar.ofBits .f32 0x3E000000#32))

def dkEnd (e : Env F) (s : LoopSt (F := F) c arg7 arg8) : Buf (Elt F) (arg7.view.loc (c : Thread nD τ)) :=
  addTile c arg7 (k0_off6 i) (k0_off6_inb i) (e.dzD s.1.2 (kD c i arg2 X2) (vD c i arg3 X3)) e.q4 s.2.1

def dvEnd (e : Env F) (s : LoopSt (F := F) c arg7 arg8) : Buf (Elt F) (arg8.view.loc (c : Thread nD τ)) :=
  addTile c arg8 (k0_off6 i) (k0_off6_inb i) (e.wD s.1.2 (kD c i arg2 X2)) e.do4 s.2.2

/-- What the point holds besides its results. -/
abbrev Ins : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5))

abbrev Outs (f6 : Buf (Elt F) (arg6.view.loc (c : Thread nD τ))) (f7 : Buf (Elt F) (arg7.view.loc (c : Thread nD τ))) (f8 : Buf (Elt F) (arg8.view.loc (c : Thread nD τ))) : sProp 𝕄 :=
  iprop((arg6.view.loc (c : Thread nD τ) ↦[arg6.view.set]{fullShare} f6) ∗ (arg7.view.loc (c : Thread nD τ) ↦[arg7.view.set]{fullShare} f7)
    ∗ (arg8.view.loc (c : Thread nD τ) ↦[arg8.view.set]{fullShare} f8))

/-- The body at a point. -/
theorem body_run (f6 : Buf (Elt F) (arg6.view.loc (c : Thread nD τ))) (f7 : Buf (Elt F) (arg7.view.loc (c : Thread nD τ))) (f8 : Buf (Elt F) (arg8.view.loc (c : Thread nD τ)))
    (e : Env F) (he : e = envAt c arg1 arg4 arg5 X1 X4 X5) (s : LoopSt (F := F) c arg7 arg8) (hs : s = preSt c i arg2 arg3 arg7 arg8 X2 X3 e (startSt c i arg7 arg8 f7 f8)) :
    iprop(Ins c arg1 arg2 arg3 arg4 arg5 X1 X2 X3 X4 X5 ∗ Outs c arg6 arg7 arg8 f6 f7 f8) ⊢ wp frame (wpE (defs₀ (F := F)) Variants.none (c : Thread nD τ) none) Set.univ
        (cc0_sb_backward i arg1 harg1 arg2 harg2 arg3 harg3 arg4 harg4 arg5 harg5 arg6 harg6 arg7 harg7 arg8 harg8)
        (fun _ => iprop(Ins c arg1 arg2 arg3 arg4 arg5 X1 X2 X3 X4 X5 ∗
          Outs c arg6 arg7 arg8 (arg6.view.writes (Elt F) f6 [⟨RQ, dqEnd c i arg2 arg3 arg7 arg8 X2 X3 e s⟩]) (dkEnd c i arg2 arg3 arg7 arg8 X2 X3 e s) (dvEnd c i arg2 arg7 arg8 X2 e s))) := by
  have hcut : ∀ (arg0 : BitVec 32) (v29 v31 v33 v35 : IVec S1x256 1) (v56 v75 : FVec F S512x256 .bf16) (v77 : FVec F S512x1 .f32) (v83 : FVec F S128x128 .bf16) (v88 : FVec F S128x128 .f32)
      (f7 : Buf (Elt F) (arg7.view.loc (c : Thread nD τ))) (f8 : Buf (Elt F) (arg8.view.loc (c : Thread nD τ))), _ ⊢ wp _ _ _ (k0_part22 _ _ _ _ _ _ _ _ _ _ _ _ _ _ _ _ _ arg0 v29 v31 v33 v35 v56 v75 v77 v83 v88) _ :=
    fun arg0 v29 v31 v33 v35 v56 v75 v77 v83 v88 f7 f8 => part22_run c i arg1 harg1 arg2 harg2 arg3 harg3 arg4 harg4 arg5 harg5 arg6 harg6 arg7 harg7 arg8 harg8 arg0 v29 v31 v33 v35 v56 v75 v77 v83 v88 X2 X3 f7 f8 _ rfl
  by_cases h1 : First i
  all_goals
    suffices H : ∃ (g6 : Buf (Elt F) (arg6.view.loc (c : Thread nD τ))) (g7 : Buf (Elt F) (arg7.view.loc (c : Thread nD τ))) (g8 : Buf (Elt F) (arg8.view.loc (c : Thread nD τ))),
        (g6 = arg6.view.writes (Elt F) f6 [⟨RQ, dqEnd c i arg2 arg3 arg7 arg8 X2 X3 e s⟩] ∧ g7 = dkEnd c i arg2 arg3 arg7 arg8 X2 X3 e s ∧ g8 = dvEnd c i arg2 arg7 arg8 X2 e s) ∧
        (iprop(Ins c arg1 arg2 arg3 arg4 arg5 X1 X2 X3 X4 X5 ∗ Outs c arg6 arg7 arg8 f6 f7 f8) ⊢ wp frame (wpE (defs₀ (F := F)) Variants.none (c : Thread nD τ) none) Set.univ
        (cc0_sb_backward i arg1 harg1 arg2 harg2 arg3 harg3 arg4 harg4 arg5 harg5 arg6 harg6 arg7 harg7 arg8 harg8)
        (fun _ => iprop(Ins c arg1 arg2 arg3 arg4 arg5 X1 X2 X3 X4 X5 ∗ Outs c arg6 arg7 arg8 g6 g7 g8))) by
      obtain ⟨g6, g7, g8, ⟨rfl, rfl, rfl⟩, H⟩ := H; exact H
    subst hs he
    refine ⟨?_, ?_, ?_, ⟨?_, ?_, ?_⟩, ?_⟩
    rotate_left 6
    · iintro ⟨⟨H1, H2, H3, H4, H5⟩, ⟨H6, H7, H8⟩⟩
      sl_exec
      sl_step
      cases hk0_part22_0
      sl_close
    all_goals
      first | rw [startSt, if_pos h1, if_pos h1] | rw [startSt, if_neg h1, if_neg h1]
    all_goals
      unfold envAt mkEnv
      sl_open_run
      generalize k0_pay138 k0_pay132 k0_pay133 k0_pay134 k0_pay135 (k0_pay136 (arg1.view.readAt (Elt F) RQ.toLoadRect X1)) k0_pay137 = q4
      generalize k0_pay139 k0_pay132 k0_pay133 k0_pay134 k0_pay135 (arg5.view.readAt (Elt F) RQ.toLoadRect X5) = do4
      generalize k0_pay140 (arg4.view.readAt (Elt F) (Rect.unit (s := S1x512x1) ![0, 0, 0] S1x512x1.size inb_S1x512x1_S1x512x1_0_0_0).toLoadRect X4) = tot
      generalize k0_pay141 (F := F) = upto
      generalize k0_pay143 (k0_pay142 (F := F)) = earlier
      generalize k0_pay132 = m0
      generalize k0_pay133 = m1
      generalize k0_pay134 = m2
      generalize k0_pay135 = m3
      generalize preSt c i arg2 arg3 arg7 arg8 X2 X3 _ _ = st
      sl_open_pay; rfl

end

end Cert.KernelIdeal.Sb
-- ==== Proof.Vec.lean ====
/- The body's results as functions of the blocks' values, whatever buffers hold them. -/
module

public import proofs.«01_k».proof.Proof.Body
public import Idealize.ShloMosaic.Lib.WritesUnit
public import Idealize.ShloMosaic.Lib.VecWindow

@[expose] public section

set_option maxRecDepth 8192

noncomputable section

namespace Cert.KernelIdeal.Sb

open Cert.KernelIdeal Cert.KernelIdeal.Gen
open Idealize.ShloMosaic Idealize.ShloMosaic.TcCoe Idealize.ShloMosaic.Tactic
open Idealize.SL Idealize.SL.Sem

variable {F : FTy → Type} [FloatOps F]

/-- Rows `o` of an array of keys, values or their gradients. -/
def tileV {φ : FTy} (X : FVec F S2048x256 φ) (o : Fin 2 → ℕ) (ho : ∀ a, o a + S128x256.size a ≤ S2048x256.size a) : FVec F S128x256 φ :=
  fun x => X ((Rect.unit (s := S2048x256) o S128x256.size ho).toLoadRect.idx x)

/-- A gradient `g` with rows `o` replaced by `old`'s and a tile's products. -/
def addV (o : Fin 2 → ℕ) (ho : ∀ a, o a + S128x256.size a ≤ S2048x256.size a) (d : FVec F S512x128 .f32) (x4 : FVec F S512x256 .bf16)
    (old g : FVec F S2048x256 .f32) : FVec F S2048x256 .f32 :=
  fun y => if h : ∀ a, o a ≤ (y a).val ∧ (y a).val < o a + S128x256.size a then
    kAdd d x4 (tileV old o ho) (Rect.unitLocal (s := S2048x256) (off := o) (size := S128x256.size) y h) else g y

/-- What is carried over the tiles and the two gradients, as values. -/
abbrev VSt (F : FTy → Type) : Type := Carry F × FVec F S2048x256 .f32 × FVec F S2048x256 .f32

section
variable (i : grid0.Coords) (x2 x3 : FVec F S2048x256 .bf16)

/-- The row sums before a trip's `n`-th tile. -/
def sV (e : Env F) (t : Fin (k0_t1_loop i).trips) (a : FVec F S512x1 .f32 × FVec F S512x1 .f32) : ℕ → FVec F S512x1 .f32 × FVec F S512x1 .f32
  | 0 => a
  | n + 1 => e.next (sV e t a n) (tileV x2 _ (k0_off1_inb i t (Fin.ofNat 4 n))) (tileV x3 _ (k0_off1_inb i t (Fin.ofNat 4 n)))

abbrev kV (t : Fin (k0_t1_loop i).trips) (n : Fin 4) : FVec F S128x256 .bf16 := tileV x2 (k0_off1 i t (BitVec.ofNat 32 n.val)) (k0_off1_inb i t n)
abbrev wV (e : Env F) (t : Fin (k0_t1_loop i).trips) (a : FVec F S512x1 .f32 × FVec F S512x1 .f32) (n : Fin 4) : FVec F S512x128 .f32 :=
  e.w (sV i x2 x3 e t a n.val) (kV i x2 t n)
abbrev dzV (e : Env F) (t : Fin (k0_t1_loop i).trips) (a : FVec F S512x1 .f32 × FVec F S512x1 .f32) (n : Fin 4) : FVec F S512x128 .f32 :=
  e.dz (sV i x2 x3 e t a n.val) (kV i x2 t n) (kV i x3 t n)

/-- One trip's tile added in place. -/
abbrev add1 (t : Fin (k0_t1_loop i).trips) (n : Fin 4) (d : FVec F S512x128 .f32) (x4 : FVec F S512x256 .bf16) (g : FVec F S2048x256 .f32) : FVec F S2048x256 .f32 :=
  addV (k0_off1 i t (BitVec.ofNat 32 n.val)) (k0_off1_inb i t n) d x4 g g

/-- One trip of four tiles. -/
def tripV (e : Env F) (t : Fin (k0_t1_loop i).trips) (s : VSt F) : VSt F :=
  ((e.merge s.1.1 (addf (addf (addf (qPart (dzV i x2 x3 e t s.1.2 0) (kV i x2 t 0)) (qPart (dzV i x2 x3 e t s.1.2 1) (kV i x2 t 1)))
      (qPart (dzV i x2 x3 e t s.1.2 2) (kV i x2 t 2))) (qPart (dzV i x2 x3 e t s.1.2 3) (kV i x2 t 3))),
    sV i x2 x3 e t s.1.2 4),
   add1 i t 3 (dzV i x2 x3 e t s.1.2 3) e.q4 (add1 i t 2 (dzV i x2 x3 e t s.1.2 2) e.q4 (add1 i t 1 (dzV i x2 x3 e t s.1.2 1) e.q4 (add1 i t 0 (dzV i x2 x3 e t s.1.2 0) e.q4 s.2.1))),
   add1 i t 3 (wV i x2 x3 e t s.1.2 3) e.do4 (add1 i t 2 (wV i x2 x3 e t s.1.2 2) e.do4 (add1 i t 1 (wV i x2 x3 e t s.1.2 1) e.do4 (add1 i t 0 (wV i x2 x3 e t s.1.2 0) e.do4 s.2.2))))

def loopV (e : Env F) (s : VSt F) : ℕ → VSt F
  | 0 => s
  | k + 1 => if h : k < (k0_t1_loop i).trips then tripV i x2 x3 e ⟨k, h⟩ (loopV e s k) else loopV e s k

/-- Two tiles, where the block's number asks for them. -/
def pairV (e : Env F) (s : VSt F) : VSt F :=
  if h : k0_cond2 i = 1#1 then
    let k0 := tileV x2 (k0_off3 i) (k0_off3_inb i h); let v0 := tileV x3 (k0_off3 i) (k0_off3_inb i h)
    let k1 := tileV x2 (k0_off4 i) (k0_off4_inb i h); let v1 := tileV x3 (k0_off4 i) (k0_off4_inb i h)
    let s1 := e.next s.1.2 k0 v0
    ((e.merge s.1.1 (addf (qPart (e.dz s.1.2 k0 v0) k0) (qPart (e.dz s1 k1 v1) k1)), e.next s1 k1 v1),
      addV (k0_off4 i) (k0_off4_inb i h) (e.dz s1 k1 v1) e.q4 s.2.1 (addV (k0_off3 i) (k0_off3_inb i h) (e.dz s.1.2 k0 v0) e.q4 s.2.1 s.2.1),
      addV (k0_off4 i) (k0_off4_inb i h) (e.w s1 k1) e.do4 s.2.2 (addV (k0_off3 i) (k0_off3_inb i h) (e.w s.1.2 k0) e.do4 s.2.2 s.2.2))
  else s

/-- One tile, where the block's number is odd. -/
def oneV (e : Env F) (s : VSt F) : VSt F :=
  if h : k0_cond3 i = 1#1 then
    let k0 := tileV x2 (k0_off5 i) (k0_off5_inb i h); let v0 := tileV x3 (k0_off5 i) (k0_off5_inb i h)
    ((e.merge s.1.1 (qPart (e.dz s.1.2 k0 v0) k0), e.next s.1.2 k0 v0),
      addV (k0_off5 i) (k0_off5_inb i h) (e.dz s.1.2 k0 v0) e.q4 s.2.1 s.2.1,
      addV (k0_off5 i) (k0_off5_inb i h) (e.w s.1.2 k0) e.do4 s.2.2 s.2.2)
  else s

/-- What is carried to the diagonal. -/
def preV (e : Env F) (s : VSt F) : VSt F :=
  oneV i x2 x3 e (pairV i x2 x3 e (loopV i x2 x3 e s (Scf.trips (k0_t1_loop i).lb (k0_t1_loop i).ub (k0_t1_loop i).st)))

open Classical in
/-- What the tiles find. -/
def startV (g7 g8 : FVec F S2048x256 .f32) : VSt F :=
  ((k0_pay145, k0_pay144, k0_pay144), if First i then k0_pay129 else g7, if First i then k0_pay130 else g8)

abbrev kDV : FVec F S128x256 .bf16 := tileV x2 (k0_off6 i) (k0_off6_inb i)
abbrev vDV : FVec F S128x256 .bf16 := tileV x3 (k0_off6 i) (k0_off6_inb i)

/-- The point's three results from what was carried to the diagonal. -/
def dqV (e : Env F) (s : VSt F) : FVec F S128x256 .f32 :=
  mulf (e.merge s.1.1 (qPart (e.dzD s.1.2 (kDV i x2) (vDV i x3)) (kDV i x2))) (broadcast S128x256 (Scalar.ofBits .f32 0x3E000000#32))
def dkV (e : Env F) (s : VSt F) : FVec F S2048x256 .f32 := addV (k0_off6 i) (k0_off6_inb i) (e.dzD s.1.2 (kDV i x2) (vDV i x3)) e.q4 s.2.1 s.2.1
def dvV (e : Env F) (s : VSt F) : FVec F S2048x256 .f32 := addV (k0_off6 i) (k0_off6_inb i) (e.wD s.1.2 (kDV i x2)) e.do4 s.2.2 s.2.2

end

section
variable (c : Dev nD) (i : grid0.Coords) (arg1 : Memref sig .tc .vmem S128x256 .bf16)
  (arg2 : Memref sig .tc .vmem S2048x256 .bf16) (arg3 : Memref sig .tc .vmem S2048x256 .bf16) (arg4 : Memref sig .tc .vmem S1x512x1 .f32)
  (arg5 : Memref sig .tc .vmem S128x256 .f32) (arg7 : Memref sig .tc .vmem S2048x256 .f32) (arg8 : Memref sig .tc .vmem S2048x256 .f32)
  (X1 : Buf (Elt F) (arg1.view.loc (c : Thread nD τ))) (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))

/-- The values of a state held in buffers. -/
def vals (s : LoopSt (F := F) c arg7 arg8) : VSt F := (s.1, arg7.view.read (Elt F) s.2.1, arg8.view.read (Elt F) s.2.2)

theorem read_addTileOf (arg : Memref sig .tc .vmem S2048x256 .f32) (o : Fin 2 → ℕ) (ho : ∀ a, o a + S128x256.size a ≤ S2048x256.size a)
    (d : FVec F S512x128 .f32) (x4 : FVec F S512x256 .bf16) (old f : Buf (Elt F) (arg.view.loc (c : Thread nD τ))) :
    arg.view.read (Elt F) (addTileOf c arg o ho d x4 old f) = addV o ho d x4 (arg.view.read (Elt F) old) (arg.view.read (Elt F) f) := by
  funext y
  exact View.read_writes_cons_unit arg.view f ho _ [] y rfl

theorem sT_eq (e : Env F) (t : Fin (k0_t1_loop i).trips) (a : FVec F S512x1 .f32 × FVec F S512x1 .f32) (n : ℕ) :
    sT c i arg2 arg3 X2 X3 e t a n = sV i (arg2.view.read (Elt F) X2) (arg3.view.read (Elt F) X3) e t a n := by
  induction n with
  | zero => rfl
  | succ n ih => rw [sT, sV, ih]; rfl

theorem vals_tripSt (e : Env F) (t : Fin (k0_t1_loop i).trips) (s : LoopSt (F := F) c arg7 arg8) :
    vals c arg7 arg8 (tripSt c i arg2 arg3 arg7 arg8 X2 X3 e t s) = tripV i (arg2.view.read (Elt F) X2) (arg3.view.read (Elt F) X3) e t (vals c arg7 arg8 s) := by
  unfold vals tripSt tripV wT dzT wV dzV add1
  simp only [read_addTileOf, sT_eq]
  rfl

theorem vals_loopSt (e : Env F) (s : LoopSt (F := F) c arg7 arg8) (k : ℕ) :
    vals c arg7 arg8 (loopSt c i arg2 arg3 arg7 arg8 X2 X3 e s k) = loopV i (arg2.view.read (Elt F) X2) (arg3.view.read (Elt F) X3) e (vals c arg7 arg8 s) k := by
  induction k with
  | zero => rfl
  | succ k ih =>
    rw [loopSt, loopV]
    split
    · rw [vals_tripSt, ih]
    · exact ih

theorem vals_pairSt (e : Env F) (s : LoopSt (F := F) c arg7 arg8) :
    vals c arg7 arg8 (pairSt c i arg2 arg3 arg7 arg8 X2 X3 e s) = pairV i (arg2.view.read (Elt F) X2) (arg3.view.read (Elt F) X3) e (vals c arg7 arg8 s) := by
  unfold pairSt pairV
  split
  · unfold vals; dsimp only; simp only [read_addTileOf]; rfl
  · rfl

theorem vals_oneSt (e : Env F) (s : LoopSt (F := F) c arg7 arg8) :
    vals c arg7 arg8 (oneSt c i arg2 arg3 arg7 arg8 X2 X3 e s) = oneV i (arg2.view.read (Elt F) X2) (arg3.view.read (Elt F) X3) e (vals c arg7 arg8 s) := by
  unfold oneSt oneV
  split
  · unfold vals; dsimp only; simp only [read_addTileOf]; rfl
  · rfl

theorem vals_preSt (e : Env F) (s : LoopSt (F := F) c arg7 arg8) :
    vals c arg7 arg8 (preSt c i arg2 arg3 arg7 arg8 X2 X3 e s) = preV i (arg2.view.read (Elt F) X2) (arg3.view.read (Elt F) X3) e (vals c arg7 arg8 s) := by
  unfold preSt preV
  rw [vals_oneSt, vals_pairSt, vals_loopSt]

theorem vals_startSt (f7 : Buf (Elt F) (arg7.view.loc (c : Thread nD τ))) (f8 : Buf (Elt F) (arg8.view.loc (c : Thread nD τ))) :
    vals c arg7 arg8 (startSt c i arg7 arg8 f7 f8) = startV i (arg7.view.read (Elt F) f7) (arg8.view.read (Elt F) f8) := by
  unfold vals startSt startV
  split
  · dsimp only
    rw [View.read_writes_full, View.read_writes_full]
  · rfl

end

end Cert.KernelIdeal.Sb
-- ==== Proof.Launch.lean ====
/- The kernel's run on the machine: what each array holds at the end. -/
module

public import proofs.«01_k».proof.Proof.Vec
public import proofs.«01_k».proof.Proof.Gen.KernelIdeal.Frame

public import Idealize.ShloMosaic.Lib.Claim

@[expose] public section

set_option maxRecDepth 16384
set_option maxHeartbeats 1000000

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- What a query block's tiles share, from the values of its blocks. -/
def envV (x1 : FVec F S128x256 .bf16) (x4 : FVec F S1x512x1 .f32) (x5 : FVec F S128x256 .f32) : Env F :=
  mkEnv (fun x => x1 (RQ.toLoadRect.idx x)) (fun x => x4 ((Rect.unit (s := S1x512x1) ![0, 0, 0] S1x512x1.size inb_S1x512x1_S1x512x1_0_0_0).toLoadRect.idx x)) (fun x => x5 (RQ.toLoadRect.idx x))

section Body
variable (c : Dev nD) (i : grid0.Coords) (arg1 : Memref sig .tc .vmem S128x256 .bf16) (harg1 : arg1.IsWhole)
  (arg2 : Memref sig .tc .vmem S2048x256 .bf16) (harg2 : arg2.IsWhole) (arg3 : Memref sig .tc .vmem S2048x256 .bf16) (harg3 : arg3.IsWhole)
  (arg4 : Memref sig .tc .vmem S1x512x1 .f32) (harg4 : arg4.IsWhole) (arg5 : Memref sig .tc .vmem S128x256 .f32) (harg5 : arg5.IsWhole)
  (arg6 : Memref sig .tc .vmem S128x256 .f32) (harg6 : arg6.IsWhole) (arg7 : Memref sig .tc .vmem S2048x256 .f32) (harg7 : arg7.IsWhole)
  (arg8 : Memref sig .tc .vmem S2048x256 .f32) (harg8 : arg8.IsWhole)
  (x1 : FVec F S128x256 .bf16) (x2 x3 : FVec F S2048x256 .bf16) (x4 : FVec F S1x512x1 .f32) (x5 : FVec F S128x256 .f32)

/-- The state at the diagonal. -/
def atDiag (g7 g8 : FVec F S2048x256 .f32) : VSt F := preV i x2 x3 (envV x1 x4 x5) (startV i g7 g8)

theorem atDiag_vals (X1 : Buf (Elt F) (arg1.view.loc (c : Thread nD τ))) (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (f7 : Buf (Elt F) (arg7.view.loc (c : Thread nD τ))) (f8 : Buf (Elt F) (arg8.view.loc (c : Thread nD τ))) :
    vals c arg7 arg8 (preSt c i arg2 arg3 arg7 arg8 X2 X3 (envAt c arg1 arg4 arg5 X1 X4 X5) (startSt c i arg7 arg8 f7 f8))
      = atDiag i (arg1.view.read (Elt F) X1) (arg2.view.read (Elt F) X2) (arg3.view.read (Elt F) X3) (arg4.view.read (Elt F) X4) (arg5.view.read (Elt F) X5)
          (arg7.view.read (Elt F) f7) (arg8.view.read (Elt F) f8) := by
  rw [vals_preSt, vals_startSt]; rfl

/-- The body's triple over the values of its blocks. -/
theorem body_vals (d6 : FVec F S128x256 .f32) (g7 g8 : FVec F S2048x256 .f32) :
    (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare d6 ∗ owns (c : Thread nD τ) arg7 fullShare g7 ∗ owns (c : Thread nD τ) arg8 fullShare g8) : sProp 𝕄)
      ⊢ wp frame (wpE (defs₀ (F := F)) Variants.none (c : Thread nD τ) none) Set.univ
        (cc0_sb_backward i arg1 harg1 arg2 harg2 arg3 harg3 arg4 harg4 arg5 harg5 arg6 harg6 arg7 harg7 arg8 harg8)
        (fun _ => iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5
          ∗ owns (c : Thread nD τ) arg6 fullShare (dqV i x2 x3 (envV x1 x4 x5) (atDiag i x1 x2 x3 x4 x5 g7 g8))
          ∗ owns (c : Thread nD τ) arg7 fullShare (dkV i x2 x3 (envV x1 x4 x5) (atDiag i x1 x2 x3 x4 x5 g7 g8))
          ∗ owns (c : Thread nD τ) arg8 fullShare (dvV i x2 (envV x1 x4 x5) (atDiag i x1 x2 x3 x4 x5 g7 g8)))) := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩
  subst h1 h2 h3 h4 h5 h6 h7 h8
  have h := atDiag_vals c i arg1 arg2 arg3 arg4 arg5 arg7 arg8 f1 f2 f3 f4 f5 f7 f8
  have hrun := body_run c i arg1 harg1 arg2 harg2 arg3 harg3 arg4 harg4 arg5 harg5 arg6 harg6 arg7 harg7 arg8 harg8 f1 f2 f3 f4 f5 f6 f7 f8 _ rfl _ rfl
  generalize preSt c i arg2 arg3 arg7 arg8 f2 f3 (envAt c arg1 arg4 arg5 f1 f4 f5) (startSt c i arg7 arg8 f7 f8) = s at h hrun
  rw [← h]
  iapply (wp_wand_r Idealize.ShloMosaic.frame (wpE (defs₀ (F := F)) Variants.none (c : Thread nD τ) none) Set.univ)
  isplitl [H1 H2 H3 H4 H5 H6 H7 H8]
  · iapply hrun
    isplitl [H1 H2 H3 H4 H5]
    · isplitl [H1]; · iexact H1
      isplitl [H2]; · iexact H2
      isplitl [H3]; · iexact H3
      isplitl [H4]; · iexact H4
      iexact H5
    · isplitl [H6]; · iexact H6
      isplitl [H7]; · iexact H7
      iexact H8
  iintro %u ⟨⟨H1, H2, H3, H4, H5⟩, ⟨H6, H7, H8⟩⟩
  isplitl [H1]; · iexists _; isplitr; (swap; · iexact H1); ipureintro; rfl
  isplitl [H2]; · iexists _; isplitr; (swap; · iexact H2); ipureintro; rfl
  isplitl [H3]; · iexists _; isplitr; (swap; · iexact H3); ipureintro; rfl
  isplitl [H4]; · iexists _; isplitr; (swap; · iexact H4); ipureintro; rfl
  isplitl [H5]; · iexists _; isplitr; (swap; · iexact H5); ipureintro; rfl
  isplitl [H6]; · iexists _; isplitr; (swap; · iexact H6); ipureintro; exact View.read_writes_full _ _ _ _ []
  isplitl [H7]; · iexists _; isplitr; (swap; · iexact H7); ipureintro; exact read_addTileOf ..
  iexists _; isplitr; (swap; · iexact H8); ipureintro; exact read_addTileOf ..

end Body

variable (m : (ℓ : Loc nD τ sig) → Buf (Elt F) ℓ) (ρ : Dev nD → PrngReg)

section Points
variable (c : Dev nD) (t : Fin cfg0.N)

/-- The blocks of a point. -/
def q0 : FVec F S128x256 .bf16 := iblk m c 0 t
def k0 : FVec F S2048x256 .bf16 := iblk m c 1 t
def v0 : FVec F S2048x256 .bf16 := iblk m c 2 t
def tot0 : FVec F S1x512x1 .f32 := iblk m c 3 t
def do0 : FVec F S128x256 .f32 := iblk m c 4 t

abbrev env0 : Env F := envV (q0 m c t) (tot0 m c t) (do0 m c t)

/-- The state at a point's diagonal. -/
def diag0 (g : FVec F S2048x256 .f32 × FVec F S2048x256 .f32) : VSt F :=
  atDiag (grid0.coords t) (q0 m c t) (k0 m c t) (v0 m c t) (tot0 m c t) (do0 m c t) g.1 g.2

/-- The two gradients after a point. -/
def step0 (g : FVec F S2048x256 .f32 × FVec F S2048x256 .f32) : FVec F S2048x256 .f32 × FVec F S2048x256 .f32 :=
  (dkV (grid0.coords t) (k0 m c t) (v0 m c t) (env0 m c t) (diag0 m c t g), dvV (grid0.coords t) (k0 m c t) (env0 m c t) (diag0 m c t g))

end Points

/-- The two gradients after the points before `n`. -/
def acc0 (c : Dev nD) : ℕ → FVec F S2048x256 .f32 × FVec F S2048x256 .f32
  | 0 => (k0_pay129, k0_pay130)
  | n + 1 => if h : n < cfg0.N then step0 m c ⟨n, h⟩ (acc0 c n) else acc0 c n

theorem acc0_succ (c : Dev nD) (t : Fin cfg0.N) : acc0 m c (t.val + 1) = step0 m c t (acc0 m c t.val) := by
  rw [acc0, dif_pos t.isLt]

theorem first0 (t : Fin cfg0.N) (h : t.val = 0) : First (grid0.coords t) := by
  rw [show t = (⟨0, by decide⟩ : Fin cfg0.N) from Fin.ext h]
  decide +kernel

/-- The first point takes nothing from the gradients' buffers. -/
theorem diag0_first (c : Dev nD) (t : Fin cfg0.N) (h : t.val = 0) (g g' : FVec F S2048x256 .f32 × FVec F S2048x256 .f32) : diag0 m c t g = diag0 m c t g' := by
  unfold diag0 atDiag startV
  rw [if_pos (first0 t h), if_pos (first0 t h), if_pos (first0 t h), if_pos (first0 t h)]

/-- The proof data: each input's buffer at its block, each output's at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqV (grid0.coords t) (k0 m c t) (v0 m c t) (env0 m c t) (diag0 m c t (acc0 m c t.val))
    | ⟨6, _⟩ => (acc0 m c (t.val + 1)).1
    | ⟨7, _⟩ => (acc0 m c (t.val + 1)).2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = dqV (grid0.coords t) (k0 m c t) (v0 m c t) (env0 m c t) (diag0 m c t (acc0 m c t.val)) := by
  dsimp only [dats]
theorem after6 (c : Dev nD) (t : Fin cfg0.N) : (dats m 0 c).after 6 t = (acc0 m c (t.val + 1)).1 := by dsimp only [dats]
theorem after7 (c : Dev nD) (t : Fin cfg0.N) : (dats m 0 c).after 7 t = (acc0 m c (t.val + 1)).2 := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

theorem noflush6 (t : Fin cfg0.N) (h : t.val ≠ 0) : (cfg0.win 6).flush ⟨t.val - 1, Nat.lt_of_le_of_lt (Nat.sub_le _ _) t.isLt⟩ = false := by
  rw [Bool.eq_false_iff, ne_eq, flush0_6]
  have : t.val < 16 := t.isLt
  dsimp only; omega
theorem noflush7 (t : Fin cfg0.N) (h : t.val ≠ 0) : (cfg0.win 7).flush ⟨t.val - 1, Nat.lt_of_le_of_lt (Nat.sub_le _ _) t.isLt⟩ = false := by
  rw [Bool.eq_false_iff, ne_eq, flush0_7]
  have : t.val < 16 := t.isLt
  dsimp only; omega

theorem before6 (c : Dev nD) (t : Fin cfg0.N) (h : t.val ≠ 0) (d) : (dats m 0 c).before 6 t d = (acc0 m c t.val).1 := by
  rw [(dats m 0 c).before_out_acc 6 rfl t h (noflush6 t h) (fun _ => rfl)]
  have e : t.val - 1 + 1 = t.val := by omega
  have := after6 m c ⟨t.val - 1, Nat.lt_of_le_of_lt (Nat.sub_le _ _) t.isLt⟩
  dsimp only at this
  rw [e] at this
  rw [← this]; rfl
theorem before7 (c : Dev nD) (t : Fin cfg0.N) (h : t.val ≠ 0) (d) : (dats m 0 c).before 7 t d = (acc0 m c t.val).2 := by
  rw [(dats m 0 c).before_out_acc 7 rfl t h (noflush7 t h) (fun _ => rfl)]
  have e : t.val - 1 + 1 = t.val := by omega
  have := after7 m c ⟨t.val - 1, Nat.lt_of_le_of_lt (Nat.sub_le _ _) t.isLt⟩
  dsimp only at this
  rw [e] at this
  rw [← this]; rfl

/-- What a point finds in the gradients' buffers does as well as what the points before it left. -/
theorem diag0_before (c : Dev nD) (t : Fin cfg0.N) (d6 d7) :
    diag0 m c t ((dats m 0 c).before 6 t d6, (dats m 0 c).before 7 t d7) = diag0 m c t (acc0 m c t.val) := by
  by_cases h : t.val = 0
  · exact diag0_first m c t h _ _
  · rw [before6 m c t h, before7 m c t h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, acc0_succ]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r Idealize.ShloMosaic.frame (wpE (defs₀ (F := F)) Variants.none (c : Thread nD τ) none) Set.univ)
  isplitl [H0 H1 H2 H3 H4 H5 H6 H7]
  · iapply (body_vals c (grid0.coords t) _ _ _ _ _ _ _ _ _ _ _ _ _ _ _ _ (q0 m c t) (k0 m c t) (v0 m c t) (tot0 m c t) (do0 m c t) _
      ((dats m 0 c).before 6 t d6) ((dats m 0 c).before 7 t d7))
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  have hd := diag0_before m c t d6 d7
  unfold diag0 at hd
  dsimp only at hd
  rw [hd]
  iintro %u ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The launch: the arrays at the end, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every run ends with the arguments unchanged, the counters at zero and the arrays at the proof data's values. -/
theorem run_main : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) ∧ Pipeline.FramePost cfgs (dats m) 0 (V m) r) :=
  θ_run_and (θ_run_and (frame_of m ρ (dats m) (A_eq m) ((θ_run defs _ _).mono (fun _ h => h.1) (run_main_quiescent m ρ)))
    ((θ_run defs _ _).mono (fun _ h => h.2) (run_main_quiescent m ρ))) ((θ_run defs _ _).mono (fun _ h => h.1) (run_main_quiescent m ρ))

end Cert.KernelIdeal.Sb
-- ==== Proof.GradW.lean ====
/- The gradients of the FFN's weights: what each grid point leaves, against the reference's three products. -/
module

public import proofs.«01_k».proof.Proof.Gen.Kernel2Ideal.Frame
public import proofs.«01_k».proof.Proof.Gen.Reference2Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel2Ideal.GradW

open Cert.Kernel2Ideal Cert.Kernel2Ideal.Gen

variable (m : (ℓ : Loc nD τ sig) → Buf (Elt Ideal) ℓ)

/-- The reference's gradient of a weight on the input side: the input against the hidden gradient, laid out by chip. -/
abbrev refIn (H : FVec Ideal S2048x1024 .f32) (D : FVec Ideal S2048x2816 .f32) : FVec Ideal S4x704x1024 .bf16 :=
  shapeCast _ (truncf .bf16 (transpose Cert.Reference2Ideal.S2816x1024 [1, 0] (transpose Cert.Reference2Ideal.S1024x2816 [1, 0]
    (Host.dotGeneral Cert.Reference2Ideal.dot_S2048x2816_S2048x1024_S2816x1024_0_0_1_1_n_n none D H)
    Cert.Reference2Ideal.Gen.transposes_S2816x1024_S1024x2816_1_0) Cert.Reference2Ideal.Gen.transposes_S1024x2816_S2816x1024_1_0)
    Cert.Reference2Ideal.Gen.bitsLt_bf16_f32) Cert.Reference2Ideal.Gen.shapeCasts_S2816x1024_S4x704x1024

/-- The reference's gradient of the output weight. -/
abbrev refOut (S : FVec Ideal S2048x2816 .f32) (D : FVec Ideal S2048x1024 .f32) : FVec Ideal S4x704x1024 .bf16 :=
  shapeCast _ (truncf .bf16 (transpose Cert.Reference2Ideal.S2816x1024 [1, 0]
    (Host.dotGeneral Cert.Reference2Ideal.dot_S2048x1024_S2048x2816_S1024x2816_0_0_1_1_n_n none D S)
    Cert.Reference2Ideal.Gen.transposes_S1024x2816_S2816x1024_1_0)
    Cert.Reference2Ideal.Gen.bitsLt_bf16_f32) Cert.Reference2Ideal.Gen.shapeCasts_S2816x1024_S4x704x1024

theorem idx_val : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val % 2, 0] ∧ win0_4.index t = ![t.val % 2, 0]
    ∧ win0_5.index t = ![t.val / 2, 0, 0] ∧ win0_6.index t = ![t.val / 2, 0, 0] ∧ win0_7.index t = ![t.val / 2, 0, 0] :=
  (by decide +kernel : ∀ t : Fin grid0.N, _)

/-- The gate weight's gradient after the run. -/
theorem gate (c : Dev nD) : (dats m 0 c).arrAt 5 (cfgs 0).N
    = refIn (m ((c : Thread nD τ).loc main_arg0)) (m ((c : Thread nD τ).loc main_arg2)) := by
  refine (dats m 0 c).arrAt_eq_of_covers 5 _ (by decide +kernel) fun t hf y => ?_
  blk_simp
  have h := (flush0_5 t).mp hf
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega) (by show ¬(t.val - 1) % 2 = 1; omega)
  dsimp only at hA
  rw [after0_5, outsAt0_B m c t (by omega) h h, hA]
  clear hA
  frame_out
  rw [read_unread_whole]
  pointwise [k0_pay11, k0_pay8, k0_pay5, k0_pay2, k0_pay1, refIn]
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

/-- The up weight's gradient after the run. -/
theorem up (c : Dev nD) : (dats m 0 c).arrAt 6 (cfgs 0).N
    = refIn (m ((c : Thread nD τ).loc main_arg0)) (m ((c : Thread nD τ).loc main_arg3)) := by
  refine (dats m 0 c).arrAt_eq_of_covers 6 _ (by decide +kernel) fun t hf y => ?_
  blk_simp
  have h := (flush0_6 t).mp hf
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega) (by show ¬(t.val - 1) % 2 = 1; omega)
  dsimp only at hA
  rw [after0_6, outsAt0_B m c t (by omega) h h, hA]
  clear hA
  frame_out
  rw [read_unread_whole]
  pointwise [k0_pay12, k0_pay9, k0_pay6, k0_pay3, k0_pay1, refIn]
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

/-- The down weight's gradient after the run. -/
theorem down (c : Dev nD) : (dats m 0 c).arrAt 7 (cfgs 0).N
    = refOut (m ((c : Thread nD τ).loc main_arg1)) (m ((c : Thread nD τ).loc main_arg4)) := by
  refine (dats m 0 c).arrAt_eq_of_covers 7 _ (by decide +kernel) fun t hf y => ?_
  blk_simp
  have h := (flush0_7 t).mp hf
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega) (by show ¬(t.val - 1) % 2 = 1; omega)
  dsimp only at hA
  rw [after0_7, outsAt0_B m c t (by omega) h h, hA]
  clear hA
  frame_out
  rw [read_unread_whole]
  pointwise [k0_pay13, k0_pay10, k0_pay7, k0_pay4, refOut]
  refine Eq.trans (b := (_ : EReal)) ?_ (Finset.sum_congr rfl fun k _ => mul_comm _ _)
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

end Cert.Kernel2Ideal.GradW

end
-- ==== Proof.Up.lean ====
/- The hidden layer of the FFN: what each grid point leaves, against the reference's products and activation. -/
module

public import proofs.«01_k».proof.Proof.Gen.Kernel3Ideal.Frame
public import proofs.«01_k».proof.Proof.Gen.Reference3Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel3Ideal.Up

open Cert.Kernel3Ideal Cert.Kernel3Ideal.Gen

variable (m : (ℓ : Loc nD τ sig) → Buf (Elt Ideal) ℓ)

/-- The gate pre-activation, laid out by chip. -/
abbrev refA (x0 : FVec Ideal S2048x1024 .f32) (x1 : FVec Ideal S1024x2816 .f32) (x2 : FVec Ideal S1024x2816 .f32) : FVec Ideal S4x2048x704 .bf16 :=
  transpose Cert.Reference3Ideal.S4x2048x704 [1, 0, 2] (shapeCast _ (truncf .bf16 (Host.dotGeneral Cert.Reference3Ideal.dot_S2048x1024_S1024x2816_S2048x2816_1_0_0_1_n_n none x0 x1) Cert.Reference3Ideal.Gen.bitsLt_bf16_f32) Cert.Reference3Ideal.Gen.shapeCasts_S2048x2816_S2048x4x704) Cert.Reference3Ideal.Gen.transposes_S2048x4x704_S4x2048x704_1_0_2

/-- The other pre-activation. -/
abbrev refB (x0 : FVec Ideal S2048x1024 .f32) (x1 : FVec Ideal S1024x2816 .f32) (x2 : FVec Ideal S1024x2816 .f32) : FVec Ideal S4x2048x704 .bf16 :=
  transpose Cert.Reference3Ideal.S4x2048x704 [1, 0, 2] (shapeCast _ (truncf .bf16 (Host.dotGeneral Cert.Reference3Ideal.dot_S2048x1024_S1024x2816_S2048x2816_1_0_0_1_n_n none x0 x2) Cert.Reference3Ideal.Gen.bitsLt_bf16_f32) Cert.Reference3Ideal.Gen.shapeCasts_S2048x2816_S2048x4x704) Cert.Reference3Ideal.Gen.transposes_S2048x4x704_S4x2048x704_1_0_2

/-- The activation times the other factor. -/
abbrev refS (x0 : FVec Ideal S2048x1024 .f32) (x1 : FVec Ideal S1024x2816 .f32) (x2 : FVec Ideal S1024x2816 .f32) : FVec Ideal S4x2048x704 .bf16 :=
  transpose Cert.Reference3Ideal.S4x2048x704 [1, 0, 2] (shapeCast _ (truncf .bf16 (mulf (mulf (Host.dotGeneral Cert.Reference3Ideal.dot_S2048x1024_S1024x2816_S2048x2816_1_0_0_1_n_n none x0 x1) (Host.divf (broadcastInDim Cert.Reference3Ideal.S2048x2816 ![] Cert.Reference3Ideal.Gen.bcast_S_S2048x2816 (constant Cert.Reference3Ideal.S_ .f32 0x3F800000#32)) (addf (broadcastInDim Cert.Reference3Ideal.S2048x2816 ![] Cert.Reference3Ideal.Gen.bcast_S_S2048x2816 (constant Cert.Reference3Ideal.S_ .f32 0x3F800000#32)) (Host.exp (Host.negf (Host.dotGeneral Cert.Reference3Ideal.dot_S2048x1024_S1024x2816_S2048x2816_1_0_0_1_n_n none x0 x1)))))) (Host.dotGeneral Cert.Reference3Ideal.dot_S2048x1024_S1024x2816_S2048x2816_1_0_0_1_n_n none x0 x2)) Cert.Reference3Ideal.Gen.bitsLt_bf16_f32) Cert.Reference3Ideal.Gen.shapeCasts_S2048x2816_S2048x4x704) Cert.Reference3Ideal.Gen.transposes_S2048x4x704_S4x2048x704_1_0_2

theorem idx_val : ∀ t : Fin cfg0.N, win0_0.index t = ![t.val % 2, 0]
    ∧ win0_1.index t = ![t.val / 2, 0, 0]
    ∧ win0_2.index t = ![t.val / 2, 0, 0]
    ∧ win0_3.index t = ![t.val / 2, t.val % 2, 0]
    ∧ win0_4.index t = ![t.val / 2, t.val % 2, 0]
    ∧ win0_5.index t = ![t.val / 2, t.val % 2, 0] :=
  (by decide +kernel : ∀ t : Fin grid0.N, _)

/-- The gate pre-activation after the run. -/
theorem gate (c : Dev nD) : (dats m 0 c).arrAt 3 (cfgs 0).N
    = refA (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay4, k0_pay2, k0_pay1, refA]
  blk_point [iblk, V, idx_val t]

/-- The other pre-activation after the run. -/
theorem other (c : Dev nD) : (dats m 0 c).arrAt 4 (cfgs 0).N
    = refB (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  pointwise [k0_pay5, k0_pay3, k0_pay1, refB]
  blk_point [iblk, V, idx_val t]

/-- The activation times the other factor after the run. -/
theorem act (c : Dev nD) : (dats m 0 c).arrAt 5 (cfgs 0).N
    = refS (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  pointwise [k0_pay6, k0_pay3, k0_pay2, k0_pay1, refS]
  simp only [zero_sub]
  blk_point [iblk, V, idx_val t]

end Cert.Kernel3Ideal.Up

end
-- ==== Proof.Hid.lean ====
/- The gradients of the hidden layer's two pre-activations: what each grid point leaves, against the reference's derivative. -/
module

public import proofs.«01_k».proof.Proof.Gen.Kernel4Ideal.Frame
public import proofs.«01_k».proof.Proof.Gen.Reference4Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel4Ideal.Hid

open Cert.Kernel4Ideal Cert.Kernel4Ideal.Gen

/-- A real number among the extended reals. -/
abbrev IsReal (x : EReal) : Prop := ∃ r : ℝ, x = r

theorem isReal_sum {n : Nat} (f g : Fin n → EReal) (hf : ∀ k, IsReal (f k)) (hg : ∀ k, IsReal (g k)) : IsReal (∑ k, f k * g k) := by
  refine Finset.sum_induction (fun k => f k * g k) IsReal ?_ ⟨0, EReal.coe_zero.symm⟩ fun k _ => ?_
  · rintro _ _ ⟨a, rfl⟩ ⟨b, rfl⟩
    exact ⟨a + b, (EReal.coe_add a b).symm⟩
  · obtain ⟨a, ha⟩ := hf k
    obtain ⟨b, hb⟩ := hg k
    exact ⟨a * b, by rw [ha, hb, EReal.coe_mul]⟩

theorem sigmoid_coe (a : ℝ) : Ideal.div 1 (1 + Ideal.exp (-(a : EReal))) = ((1 / (1 + Real.exp (-a)) : ℝ) : EReal) := by
  have h : (1 + Real.exp (-a)) ≠ 0 := (add_pos one_pos (Real.exp_pos _)).ne'
  rw [← EReal.coe_neg, Ideal.exp_coe, ← EReal.coe_one, ← EReal.coe_add, Ideal.div, if_neg (by exact_mod_cast h), ← EReal.coe_inv, ← EReal.coe_mul]
  norm_num

/-- The derivative of the activation times the other factor: the product's form, and the reference's sum of two. -/
theorem gate_scalar {d b a : EReal} (hd : IsReal d) (hb : IsReal b) (ha : IsReal a) :
    d * b * Ideal.div 1 (1 + Ideal.exp (-a)) + a * (d * b) * (Ideal.div 1 (1 + Ideal.exp (-a)) * (1 - Ideal.div 1 (1 + Ideal.exp (-a))))
    = d * b * (Ideal.div 1 (1 + Ideal.exp (0 - a)) * (1 + a * (1 - Ideal.div 1 (1 + Ideal.exp (0 - a))))) := by
  rw [zero_sub]
  obtain ⟨d, rfl⟩ := hd
  obtain ⟨b, rfl⟩ := hb
  obtain ⟨a, rfl⟩ := ha
  rw [sigmoid_coe]
  generalize (1 / (1 + Real.exp (-a)) : ℝ) = s
  rw [← EReal.coe_one]
  simp only [← EReal.coe_mul, ← EReal.coe_sub, ← EReal.coe_add]
  congr 1
  ring

theorem other_scalar (d a : EReal) : d * (a * Ideal.div 1 (1 + Ideal.exp (0 - a))) = a * Ideal.div 1 (1 + Ideal.exp (-a)) * d := by
  rw [zero_sub, mul_comm]

variable (m : (ℓ : Loc nD τ sig) → Buf (Elt Ideal) ℓ)

/-- The gradient of the gate pre-activation, laid out by chip. -/
abbrev refDA (x0 : FVec Ideal S2048x2816 .f32) (x1 : FVec Ideal S2048x2816 .f32) (x2 : FVec Ideal S2816x1024 .f32) (x3 : FVec Ideal S2048x1024 .f32) : FVec Ideal S4x2048x704 .bf16 :=
  transpose Cert.Reference4Ideal.S4x2048x704 [1, 0, 2] (shapeCast _ (truncf .bf16 (addf (mulf (mulf (Host.dotGeneral Cert.Reference4Ideal.dot_S2048x1024_S2816x1024_S2048x2816_1_1_0_0_n_n none x3 x2) x1) (Host.divf (broadcastInDim Cert.Reference4Ideal.S2048x2816 ![] Cert.Reference4Ideal.Gen.bcast_S_S2048x2816 (constant Cert.Reference4Ideal.S_ .f32 0x3F800000#32)) (addf (broadcastInDim Cert.Reference4Ideal.S2048x2816 ![] Cert.Reference4Ideal.Gen.bcast_S_S2048x2816 (constant Cert.Reference4Ideal.S_ .f32 0x3F800000#32)) (Host.exp (Host.negf x0))))) (mulf (mulf x0 (mulf (Host.dotGeneral Cert.Reference4Ideal.dot_S2048x1024_S2816x1024_S2048x2816_1_1_0_0_n_n none x3 x2) x1)) (mulf (Host.divf (broadcastInDim Cert.Reference4Ideal.S2048x2816 ![] Cert.Reference4Ideal.Gen.bcast_S_S2048x2816 (constant Cert.Reference4Ideal.S_ .f32 0x3F800000#32)) (addf (broadcastInDim Cert.Reference4Ideal.S2048x2816 ![] Cert.Reference4Ideal.Gen.bcast_S_S2048x2816 (constant Cert.Reference4Ideal.S_ .f32 0x3F800000#32)) (Host.exp (Host.negf x0)))) (subf (broadcastInDim Cert.Reference4Ideal.S2048x2816 ![] Cert.Reference4Ideal.Gen.bcast_S_S2048x2816 (constant Cert.Reference4Ideal.S_ .f32 0x3F800000#32)) (Host.divf (broadcastInDim Cert.Reference4Ideal.S2048x2816 ![] Cert.Reference4Ideal.Gen.bcast_S_S2048x2816 (constant Cert.Reference4Ideal.S_ .f32 0x3F800000#32)) (addf (broadcastInDim Cert.Reference4Ideal.S2048x2816 ![] Cert.Reference4Ideal.Gen.bcast_S_S2048x2816 (constant Cert.Reference4Ideal.S_ .f32 0x3F800000#32)) (Host.exp (Host.negf x0)))))))) Cert.Reference4Ideal.Gen.bitsLt_bf16_f32) Cert.Reference4Ideal.Gen.shapeCasts_S2048x2816_S2048x4x704) Cert.Reference4Ideal.Gen.transposes_S2048x4x704_S4x2048x704_1_0_2

/-- The gradient of the other pre-activation. -/
abbrev refDB (x0 : FVec Ideal S2048x2816 .f32) (x1 : FVec Ideal S2048x2816 .f32) (x2 : FVec Ideal S2816x1024 .f32) (x3 : FVec Ideal S2048x1024 .f32) : FVec Ideal S4x2048x704 .bf16 :=
  transpose Cert.Reference4Ideal.S4x2048x704 [1, 0, 2] (shapeCast _ (truncf .bf16 (mulf (mulf x0 (Host.divf (broadcastInDim Cert.Reference4Ideal.S2048x2816 ![] Cert.Reference4Ideal.Gen.bcast_S_S2048x2816 (constant Cert.Reference4Ideal.S_ .f32 0x3F800000#32)) (addf (broadcastInDim Cert.Reference4Ideal.S2048x2816 ![] Cert.Reference4Ideal.Gen.bcast_S_S2048x2816 (constant Cert.Reference4Ideal.S_ .f32 0x3F800000#32)) (Host.exp (Host.negf x0))))) (Host.dotGeneral Cert.Reference4Ideal.dot_S2048x1024_S2816x1024_S2048x2816_1_1_0_0_n_n none x3 x2)) Cert.Reference4Ideal.Gen.bitsLt_bf16_f32) Cert.Reference4Ideal.Gen.shapeCasts_S2048x2816_S2048x4x704) Cert.Reference4Ideal.Gen.transposes_S2048x4x704_S4x2048x704_1_0_2

theorem idx_val : ∀ t : Fin cfg0.N, win0_0.index t = ![t.val % 2, 0]
    ∧ win0_1.index t = ![t.val / 2, 0, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0] :=
  (by decide +kernel : ∀ t : Fin grid0.N, _)

theorem gate_congr {d b a d' b' a' : EReal} (hd : d = d') (hb : b = b') (ha : a = a') :
    d * b * (Ideal.div 1 (1 + Ideal.exp (0 - a)) * (1 + a * (1 - Ideal.div 1 (1 + Ideal.exp (0 - a)))))
    = d' * b' * (Ideal.div 1 (1 + Ideal.exp (0 - a')) * (1 + a' * (1 - Ideal.div 1 (1 + Ideal.exp (0 - a'))))) := by
  rw [hd, hb, ha]

theorem other_congr {d a d' a' : EReal} (hd : d = d') (ha : a = a') :
    d * (a * Ideal.div 1 (1 + Ideal.exp (0 - a))) = d' * (a' * Ideal.div 1 (1 + Ideal.exp (0 - a'))) := by
  rw [hd, ha]

theorem point_lt (t : Fin cfg0.N) : t.val < 8 := t.isLt

/-- The gate pre-activation's block, read. -/
theorem read2 (c : Dev nD) (t : Fin cfg0.N) (y : S1x1024x704.Idx) :
    iblk m c 2 t y = m ((c : Thread nD τ).loc main_arg0)
      (Idealize.ShloMosaic.ix2 ⟨t.val % 2 * 1024 + (y 1).val, by have := point_lt t; have := (y 1).isLt; simp at this; omega⟩
        ⟨t.val / 2 * 704 + (y 2).val, by have := point_lt t; have := (y 2).isLt; simp at this; omega⟩) := by
  have hy : y = Idealize.ShloMosaic.ix3 (y 0) (y 1) (y 2) := by funext i; fin_cases i <;> rfl
  rw [hy]
  blk_point [iblk, V, idx_val t]

/-- The other pre-activation's block, read. -/
theorem read3 (c : Dev nD) (t : Fin cfg0.N) (y : S1x1024x704.Idx) :
    iblk m c 3 t y = m ((c : Thread nD τ).loc main_arg1)
      (Idealize.ShloMosaic.ix2 ⟨t.val % 2 * 1024 + (y 1).val, by have := point_lt t; have := (y 1).isLt; simp at this; omega⟩
        ⟨t.val / 2 * 704 + (y 2).val, by have := point_lt t; have := (y 2).isLt; simp at this; omega⟩) := by
  have hy : y = Idealize.ShloMosaic.ix3 (y 0) (y 1) (y 2) := by funext i; fin_cases i <;> rfl
  rw [hy]
  blk_point [iblk, V, idx_val t]

/-- The weight's block, read. -/
theorem read1 (c : Dev nD) (t : Fin cfg0.N) (z : Fin 1) (q : Fin 704) (k : Fin 1024) :
    iblk m c 1 t (Idealize.ShloMosaic.ix3 z q k) = m ((c : Thread nD τ).loc main_arg2)
      (Idealize.ShloMosaic.ix2 ⟨t.val / 2 * 704 + q.val, by have := point_lt t; omega⟩ k) := by
  blk_point [iblk, V, idx_val t]

/-- The gradient of the gate pre-activation after the run. -/
theorem gate (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) : (dats m 0 c).arrAt 4 (cfgs 0).N
    = refDA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay5, k0_pay4, k0_pay3, k0_pay2, refDA]
  refine Eq.trans (b := (_ : EReal)) ?_ (gate_scalar (isReal_sum _ _ (fun _ => h3 _) fun _ => h2 _) (h1 _) (h0 _)).symm
  refine gate_congr (Finset.sum_congr rfl fun k _ => congrArg₂ HMul.hMul ?_ ?_) ((read3 m c t y).trans ?_) ((read2 m c t y).trans ?_)
  · blk_point [iblk, V, idx_val t]
  · refine (read1 m c t _ _ _).trans ?_
    blk_point [iblk, V, idx_val t]
  · blk_point [iblk, V, idx_val t]
  · blk_point [iblk, V, idx_val t]

/-- The gradient of the other pre-activation after the run. -/
theorem other (c : Dev nD) : (dats m 0 c).arrAt 5 (cfgs 0).N
    = refDB (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay6, k0_pay4, k0_pay3, k0_pay2, refDB]
  refine Eq.trans (b := (_ : EReal)) ?_ (other_scalar _ _)
  refine other_congr (Finset.sum_congr rfl fun k _ => congrArg₂ HMul.hMul ?_ ?_) ((read2 m c t y).trans ?_)
  · blk_point [iblk, V, idx_val t]
  · refine (read1 m c t _ _ _).trans ?_
    blk_point [iblk, V, idx_val t]
  · blk_point [iblk, V, idx_val t]

end Cert.Kernel4Ideal.Hid

end
-- ==== Proof.InProj.lean ====
/- The input projection: what each grid point leaves, against the reference's product. -/
module

public import proofs.«01_k».proof.Proof.Gen.Kernel5Ideal.Frame
public import proofs.«01_k».proof.Proof.Gen.Reference5Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel5Ideal.InProj

open Cert.Kernel5Ideal Cert.Kernel5Ideal.Gen

variable (m : (ℓ : Loc nD τ sig) → Buf (Elt Ideal) ℓ)

/-- The projection. -/
abbrev refP (x0 : FVec Ideal S2048x1024 .f32) (x1 : FVec Ideal S1024x5632 .f32) : FVec Ideal S2048x5632 .f32 :=
  Host.dotGeneral Cert.Reference5Ideal.dot_S2048x1024_S1024x5632_S2048x5632_1_0_0_1_n_n none x0 x1

/-- The projection rounded. -/
abbrev refQ (x0 : FVec Ideal S2048x1024 .f32) (x1 : FVec Ideal S1024x5632 .f32) : FVec Ideal S2048x5632 .bf16 :=
  truncf .bf16 (Host.dotGeneral Cert.Reference5Ideal.dot_S2048x1024_S1024x5632_S2048x5632_1_0_0_1_n_n none x0 x1) Cert.Reference5Ideal.Gen.bitsLt_bf16_f32

theorem idx_val : ∀ t : Fin cfg0.N, win0_0.index t = ![t.val % 2, 0]
    ∧ win0_1.index t = ![t.val / 2, 0, 0]
    ∧ win0_2.index t = ![t.val % 2, t.val / 2]
    ∧ win0_3.index t = ![t.val % 2, t.val / 2] :=
  (by decide +kernel : ∀ t : Fin grid0.N, _)

/-- The projection after the run. -/
theorem proj (c : Dev nD) : (dats m 0 c).arrAt 2 (cfgs 0).N
    = refP (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, refP]
  blk_point [iblk, V, idx_val t]

/-- The rounded projection after the run. -/
theorem rounded (c : Dev nD) : (dats m 0 c).arrAt 3 (cfgs 0).N
    = refQ (m ((c : Thread nD τ).loc main_arg0)) (m ((c : Thread nD τ).loc main_arg1)) := by
  refine (dats m 0 c).arrAt_eq_of_covers 3 _ (by decide +kernel) fun t _ y => ?_
  blk_simp
  rw [after0_3]
  frame_out
  pointwise [k0_pay2, k0_pay1, refQ]
  blk_point [iblk, V, idx_val t]

end Cert.Kernel5Ideal.InProj

end
-- ==== Proof.GradIn.lean ====
/- The gradient of the input projection's weight: what each pair of grid points leaves, against the reference's product. -/
module

public import proofs.«01_k».proof.Proof.Gen.Kernel6Ideal.Frame
public import proofs.«01_k».proof.Proof.Gen.Reference6Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel6Ideal.GradIn

open Cert.Kernel6Ideal Cert.Kernel6Ideal.Gen

variable (m : (ℓ : Loc nD τ sig) → Buf (Elt Ideal) ℓ)

/-- The gradient, laid out by chip. -/
abbrev refG (x0 : FVec Ideal S2048x1024 .f32) (x1 : FVec Ideal S2048x5632 .f32) : FVec Ideal S4x1024x1408 .bf16 :=
  transpose Cert.Reference6Ideal.S4x1024x1408 [1, 0, 2] (shapeCast _ (truncf .bf16 (transpose Cert.Reference6Ideal.S1024x5632 [1, 0] (Host.dotGeneral Cert.Reference6Ideal.dot_S2048x5632_S2048x1024_S5632x1024_0_0_1_1_n_n none x1 x0) Cert.Reference6Ideal.Gen.transposes_S5632x1024_S1024x5632_1_0) Cert.Reference6Ideal.Gen.bitsLt_bf16_f32) Cert.Reference6Ideal.Gen.shapeCasts_S1024x5632_S1024x4x1408) Cert.Reference6Ideal.Gen.transposes_S1024x4x1408_S4x1024x1408_1_0_2

theorem idx_val : ∀ t : Fin cfg0.N, win0_0.index t = ![t.val % 2, 0]
    ∧ win0_1.index t = ![t.val % 2, t.val / 2]
    ∧ win0_2.index t = ![t.val / 2, 0, 0] :=
  (by decide +kernel : ∀ t : Fin grid0.N, _)

/-- The gradient after the run. -/
theorem grad (c : Dev nD) : (dats m 0 c).arrAt 2 (cfgs 0).N
    = refG (m ((c : Thread nD τ).loc main_arg0)) (m ((c : Thread nD τ).loc main_arg1)) := by
  refine (dats m 0 c).arrAt_eq_of_covers 2 _ (by decide +kernel) fun t hf y => ?_
  blk_simp
  have h := (flush0_2 t).mp hf
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega) (by show ¬(t.val - 1) % 2 = 1; omega)
  dsimp only at hA
  rw [after0_2, outsAt0_B m c t (by omega) h h, hA]
  clear hA
  frame_out
  rw [read_unread_whole]
  pointwise [k0_pay3, k0_pay2, k0_pay1, refG]
  refine Eq.trans (b := (_ : EReal)) ?_ (Finset.sum_congr rfl fun k _ => mul_comm _ _)
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

end Cert.Kernel6Ideal.GradIn

end
-- ==== Proof.BrIn.lean ====
/- The gradient to the branches' outputs: what each row of four grid points leaves, against the reference's products. -/
module

public import proofs.«01_k».proof.Proof.Gen.Kernel13Ideal.Frame
public import proofs.«01_k».proof.Proof.Gen.Reference13Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel13Ideal.BrIn

open Cert.Kernel13Ideal Cert.Kernel13Ideal.Gen

variable (m : (ℓ : Loc nD τ sig) → Buf (Elt Ideal) ℓ)

/-- The gradients to the three branches' outputs, side by side. -/
abbrev refG (x0 : FVec Ideal S256x1024 .f32) (x1 : FVec Ideal S128x1024 .f32) (x2 : FVec Ideal S384x1024 .f32) (x3 x4 x5 : FVec Ideal S2048x1024 .f32) : FVec Ideal S2048x768 .f32 :=
  (concatenate Cert.Reference13Ideal.S2048x768 1 [⟨Cert.Reference13Ideal.S2048x256, ((Host.dotGeneral Cert.Reference13Ideal.dot_S2048x1024_S256x1024_S2048x256_1_1_0_0_n_n none x3 x0) : (⟨Cert.Reference13Ideal.S2048x256, .f32⟩ : BufTy).Contents (Elt Ideal))⟩, ⟨Cert.Reference13Ideal.S2048x128, ((Host.dotGeneral Cert.Reference13Ideal.dot_S2048x1024_S128x1024_S2048x128_1_1_0_0_n_n none x4 x1) : (⟨Cert.Reference13Ideal.S2048x128, .f32⟩ : BufTy).Contents (Elt Ideal))⟩, ⟨Cert.Reference13Ideal.S2048x384, ((Host.dotGeneral Cert.Reference13Ideal.dot_S2048x1024_S384x1024_S2048x384_1_1_0_0_n_n none x5 x2) : (⟨Cert.Reference13Ideal.S2048x384, .f32⟩ : BufTy).Contents (Elt Ideal))⟩] Cert.Reference13Ideal.Gen.concatenates_S2048x256_S2048x128_S2048x384_S2048x768_d1 : (⟨S2048x768, .f32⟩ : BufTy).Contents (Elt Ideal))

theorem idx_val : ∀ t : Fin cfg0.N, win0_0.index t = ![t.val / 4, t.val % 4]
    ∧ win0_1.index t = ![t.val / 4, t.val % 4]
    ∧ win0_2.index t = ![t.val / 4, t.val % 4]
    ∧ win0_3.index t = ![t.val % 4, 0, 0]
    ∧ win0_4.index t = ![t.val / 4, 0] :=
  (by decide +kernel : ∀ t : Fin grid0.N, _)

theorem point_lt (t : Fin cfg0.N) : t.val < 8 := t.isLt

/-- The three blocks of the accumulator, as the body stores them. -/
abbrev blocks (w0 : FVec Ideal S1024x256 .f32) (w1 : FVec Ideal S1024x128 .f32) (w2 : FVec Ideal S1024x384 .f32) : List (View.Piece (Elt Ideal) S1024x768 .f32) :=
  [⟨Rect.unit ![0, 384] ![1024, 384] inb_S1024x768_S1024x384_0_384, w2⟩, ⟨Rect.unit ![0, 256] ![1024, 128] inb_S1024x768_S1024x128_0_256, w1⟩,
    ⟨Rect.unit ![0, 0] ![1024, 256] inb_S1024x768_S1024x256_0_0, w0⟩]

/-- A value that each of the blocks holding an entry has there is the accumulator's. -/
theorem canon_blocks (w0 : FVec Ideal S1024x256 .f32) (w1 : FVec Ideal S1024x128 .f32) (w2 : FVec Ideal S1024x384 .f32) (y : S1024x768.Idx) (v : EReal)
    (h0 : View.TileAt (Val := Elt Ideal) (e := .f32) y ![0, 0] ![1024, 256] w0 v) (h1 : View.TileAt (Val := Elt Ideal) (e := .f32) y ![0, 256] ![1024, 128] w1 v)
    (h2 : View.TileAt (Val := Elt Ideal) (e := .f32) y ![0, 384] ![1024, 384] w2 v) : View.canon (Val := Elt Ideal) (blocks w0 w1 w2) y = v :=
  View.canon_eq_of_allAt _ y v (View.cover_of_tiledBy (blocks w0 w1 w2) ![1024, 128] (by sl_kernel_rfl) y)
    (View.allAt_cons_unit _ _ _ _ _ h2 (View.allAt_cons_unit _ _ _ _ _ h1 (View.allAt_cons_unit _ _ _ _ _ h0 (View.allAt_nil _ _))))

theorem canon0 (w0 : FVec Ideal S1024x256 .f32) (w1 : FVec Ideal S1024x128 .f32) (w2 : FVec Ideal S1024x384 .f32) (x : S1024x256.Idx) (y : S1024x768.Idx)
    (h : (y 0).val = (x 0).val) (h' : (y 1).val = (x 1).val) : View.canon (Val := Elt Ideal) (blocks w0 w1 w2) y = w0 x := by
  have hx : (x 1).val < 256 := (x 1).isLt
  refine canon_blocks w0 w1 w2 y _ (fun z hz => congrArg w0 (funext fun a => Fin.ext ?_)) (fun z hz => ?_) (fun z hz => ?_)
  · have e0 := hz 0
    have e1 := hz 1
    simp at e0 e1
    fin_cases a <;> simp <;> omega
  · have e1 := hz 1
    simp at e1
    omega
  · have e1 := hz 1
    simp at e1
    omega

theorem canon1 (w0 : FVec Ideal S1024x256 .f32) (w1 : FVec Ideal S1024x128 .f32) (w2 : FVec Ideal S1024x384 .f32) (x : S1024x128.Idx) (y : S1024x768.Idx)
    (h : (y 0).val = (x 0).val) (h' : (y 1).val = 256 + (x 1).val) : View.canon (Val := Elt Ideal) (blocks w0 w1 w2) y = w1 x := by
  have hx : (x 1).val < 128 := (x 1).isLt
  refine canon_blocks w0 w1 w2 y _ (fun z hz => ?_) (fun z hz => congrArg w1 (funext fun a => Fin.ext ?_)) (fun z hz => ?_)
  · have e1 := hz 1
    have hz1 : (z 1).val < 256 := (z 1).isLt
    simp at e1
    omega
  · have e0 := hz 0
    have e1 := hz 1
    simp at e0 e1
    fin_cases a <;> simp <;> omega
  · have e1 := hz 1
    simp at e1
    omega

theorem canon2 (w0 : FVec Ideal S1024x256 .f32) (w1 : FVec Ideal S1024x128 .f32) (w2 : FVec Ideal S1024x384 .f32) (x : S1024x384.Idx) (y : S1024x768.Idx)
    (h : (y 0).val = (x 0).val) (h' : (y 1).val = 384 + (x 1).val) : View.canon (Val := Elt Ideal) (blocks w0 w1 w2) y = w2 x := by
  have hx : (x 1).val < 384 := (x 1).isLt
  refine canon_blocks w0 w1 w2 y _ (fun z hz => ?_) (fun z hz => ?_) (fun z hz => congrArg w2 (funext fun a => Fin.ext ?_))
  · have e1 := hz 1
    have hz1 : (z 1).val < 256 := (z 1).isLt
    simp at e1
    omega
  · have e1 := hz 1
    have hz1 : (z 1).val < 128 := (z 1).isLt
    simp at e1
    omega
  · have e0 := hz 0
    have e1 := hz 1
    simp at e0 e1
    fin_cases a <;> simp <;> omega

theorem ld0 (w0 : FVec Ideal S1024x256 .f32) (w1 : FVec Ideal S1024x128 .f32) (w2 : FVec Ideal S1024x384 .f32) :
    View.ld (View.canon (Val := Elt Ideal) (blocks w0 w1 w2)) (Rect.unit ![0, 0] ![1024, 256] inb_S1024x768_S1024x256_0_0) = w0 :=
  funext fun x => canon0 w0 w1 w2 x _ (by rw [Rect.idx_unit_val]; simp) (by rw [Rect.idx_unit_val]; simp)

theorem ld1 (w0 : FVec Ideal S1024x256 .f32) (w1 : FVec Ideal S1024x128 .f32) (w2 : FVec Ideal S1024x384 .f32) :
    View.ld (View.canon (Val := Elt Ideal) (blocks w0 w1 w2)) (Rect.unit ![0, 256] ![1024, 128] inb_S1024x768_S1024x128_0_256) = w1 :=
  funext fun x => canon1 w0 w1 w2 x _ (by rw [Rect.idx_unit_val]; simp) (by rw [Rect.idx_unit_val]; simp)

theorem ld2 (w0 : FVec Ideal S1024x256 .f32) (w1 : FVec Ideal S1024x128 .f32) (w2 : FVec Ideal S1024x384 .f32) :
    View.ld (View.canon (Val := Elt Ideal) (blocks w0 w1 w2)) (Rect.unit ![0, 384] ![1024, 384] inb_S1024x768_S1024x384_0_384) = w2 :=
  funext fun x => canon2 w0 w1 w2 x _ (by rw [Rect.idx_unit_val]; simp) (by rw [Rect.idx_unit_val]; simp)

/-- The rows of the weights each branch takes. -/
abbrev wt0 (c : Dev nD) (t : Fin cfg0.N) : FVec Ideal S1x256x256 .bf16 := View.ld (iblk m c 3 t) (Rect.unit ![0, 0, 0] ![1, 256, 256] inb_S1x768x256_S1x256x256_0_0_0)
abbrev wt1 (c : Dev nD) (t : Fin cfg0.N) : FVec Ideal S1x128x256 .bf16 := View.ld (iblk m c 3 t) (Rect.unit ![0, 256, 0] ![1, 128, 256] inb_S1x768x256_S1x128x256_0_256_0)
abbrev wt2 (c : Dev nD) (t : Fin cfg0.N) : FVec Ideal S1x384x256 .bf16 := View.ld (iblk m c 3 t) (Rect.unit ![0, 384, 0] ![1, 384, 256] inb_S1x768x256_S1x384x256_0_384_0)

/-- The accumulator after a row's first point. -/
theorem first (c : Dev nD) (t : Fin cfg0.N) (h : t.val % 4 = 0) : (outsAt0 m c t.val t.isLt).2
    = View.canon (Val := Elt Ideal) (blocks (k0_pay4 (iblk m c 0 t) (wt0 m c t)) (k0_pay5 (iblk m c 1 t) (wt1 m c t)) (k0_pay6 (iblk m c 2 t) (wt2 m c t))) := by
  rw [outsAt0_A m c t h (by omega) (by omega)]
  frame_out
  rfl

/-- The accumulator after a row's middle point. -/
theorem next (c : Dev nD) (t : Fin cfg0.N) (h : 1 ≤ t.val % 4) (h' : ¬t.val % 4 = 3) (w0 : FVec Ideal S1024x256 .f32) (w1 : FVec Ideal S1024x128 .f32) (w2 : FVec Ideal S1024x384 .f32)
    (hw : (outsAt0 m c (t.val - 1) (Nat.lt_of_le_of_lt (Nat.sub_le _ _) t.isLt)).2 = View.canon (Val := Elt Ideal) (blocks w0 w1 w2)) : (outsAt0 m c t.val t.isLt).2
    = View.canon (Val := Elt Ideal) (blocks (k0_pay7 (iblk m c 0 t) (wt0 m c t) w0) (k0_pay8 (iblk m c 1 t) (wt1 m c t) w1) (k0_pay9 (iblk m c 2 t) (wt2 m c t) w2)) := by
  rw [outsAt0_B m c t (by omega) h h', hw]
  frame_out
  rw [read_unread_whole, ld0, ld1, ld2]
  rfl

/-- The result after a row's last point. -/
theorem last (c : Dev nD) (t : Fin cfg0.N) (h' : t.val % 4 = 3) (w0 : FVec Ideal S1024x256 .f32) (w1 : FVec Ideal S1024x128 .f32) (w2 : FVec Ideal S1024x384 .f32)
    (hw : (outsAt0 m c (t.val - 1) (Nat.lt_of_le_of_lt (Nat.sub_le _ _) t.isLt)).2 = View.canon (Val := Elt Ideal) (blocks w0 w1 w2)) : (outsAt0 m c t.val t.isLt).1
    = View.canon (Val := Elt Ideal) (blocks (k0_pay7 (iblk m c 0 t) (wt0 m c t) w0) (k0_pay8 (iblk m c 1 t) (wt1 m c t) w1) (k0_pay9 (iblk m c 2 t) (wt2 m c t) w2)) := by
  rw [outsAt0_C m c t (by omega) (by omega) h', hw]
  frame_out
  rw [read_unread_whole, ld0, ld1, ld2, View.readCov_eq_canon']
  exact View.ld_unit_lit inb_S1024x768_S1024x768_0_0 (View.canon (Val := Elt Ideal) (blocks _ _ _)) (fun a => by fin_cases a <;> rfl)

theorem sum4 (f : Fin 1024 → EReal) : ∑ k, f k = ∑ k : Fin 256, f ⟨k.val, by omega⟩ + ∑ k : Fin 256, f ⟨256 + k.val, by omega⟩
    + ∑ k : Fin 256, f ⟨512 + k.val, by omega⟩ + ∑ k : Fin 256, f ⟨768 + k.val, by omega⟩ :=
  (Fin.sum_univ_add (a := 768) (b := 256) f).trans (congrArg₂ HAdd.hAdd ((Fin.sum_univ_add (a := 512) (b := 256) _).trans
    (congrArg₂ HAdd.hAdd (Fin.sum_univ_add (a := 256) (b := 256) _) rfl)) rfl)

/-- The first branch's weights, laid out by chip. -/
theorem entry0 (c : Dev nD) (z : Fin 4) (x : Fin 256) (q : Fin 256) : V m c main_v6 (Idealize.ShloMosaic.ix3 z ⟨x.val, by omega⟩ q)
    = m ((c : Thread nD τ).loc main_arg0) (Idealize.ShloMosaic.ix2 x ⟨z.val * 256 + q.val, by omega⟩) := by
  entry_read
  pointwise

/-- The second branch's weights, laid out by chip. -/
theorem entry1 (c : Dev nD) (z : Fin 4) (x : Fin 128) (q : Fin 256) : V m c main_v6 (Idealize.ShloMosaic.ix3 z ⟨256 + x.val, by omega⟩ q)
    = m ((c : Thread nD τ).loc main_arg1) (Idealize.ShloMosaic.ix2 x ⟨z.val * 256 + q.val, by omega⟩) := by
  entry_read
  pointwise

/-- The third branch's weights, laid out by chip. -/
theorem entry2 (c : Dev nD) (z : Fin 4) (x : Fin 384) (q : Fin 256) : V m c main_v6 (Idealize.ShloMosaic.ix3 z ⟨384 + x.val, by omega⟩ q)
    = m ((c : Thread nD τ).loc main_arg2) (Idealize.ShloMosaic.ix2 x ⟨z.val * 256 + q.val, by omega⟩) := by
  entry_read
  pointwise
  have e : 384 + x.val - 256 - 128 = x.val := by omega
  rw [dif_neg (by omega), dif_neg (by omega)]
  simp only [e, Fin.eta]

/-- The first branch's weights, as a point takes them. -/
theorem wt0_at (c : Dev nD) (t : Fin cfg0.N) (x : Fin 256) (q : Fin 256) : wt0 m c t (Idealize.ShloMosaic.ix3 0 x q)
    = m ((c : Thread nD τ).loc main_arg0) (Idealize.ShloMosaic.ix2 x ⟨t.val % 4 * 256 + q.val, by omega⟩) := by
  refine Eq.trans (congrArg (V m c main_v6) ?_) (entry0 m c ⟨t.val % 4, by omega⟩ x q)
  blk_ext! [idx_val t]
  all_goals (rw [Rect.idx_unit_val]; simp)

/-- The second branch's weights, as a point takes them. -/
theorem wt1_at (c : Dev nD) (t : Fin cfg0.N) (x : Fin 128) (q : Fin 256) : wt1 m c t (Idealize.ShloMosaic.ix3 0 x q)
    = m ((c : Thread nD τ).loc main_arg1) (Idealize.ShloMosaic.ix2 x ⟨t.val % 4 * 256 + q.val, by omega⟩) := by
  refine Eq.trans (congrArg (V m c main_v6) ?_) (entry1 m c ⟨t.val % 4, by omega⟩ x q)
  blk_ext! [idx_val t]
  all_goals (rw [Rect.idx_unit_val]; simp)

/-- The third branch's weights, as a point takes them. -/
theorem wt2_at (c : Dev nD) (t : Fin cfg0.N) (x : Fin 384) (q : Fin 256) : wt2 m c t (Idealize.ShloMosaic.ix3 0 x q)
    = m ((c : Thread nD τ).loc main_arg2) (Idealize.ShloMosaic.ix2 x ⟨t.val % 4 * 256 + q.val, by omega⟩) := by
  refine Eq.trans (congrArg (V m c main_v6) ?_) (entry2 m c ⟨t.val % 4, by omega⟩ x q)
  blk_ext! [idx_val t]
  all_goals (rw [Rect.idx_unit_val]; simp)

/-- A column of the first branch's gradient. -/
theorem col0 (c : Dev nD) (t : Fin cfg0.N) (h : t.val % 4 = 3) (h1 : t.val - 1 < cfg0.N) (h2 : t.val - 2 < cfg0.N) (h3 : t.val - 3 < cfg0.N) (p : Fin 1024) (q : Fin 256) :
    k0_pay7 (iblk m c 0 t) (wt0 m c t) (k0_pay7 (iblk m c 0 ⟨t.val - 1, h1⟩) (wt0 m c ⟨t.val - 1, h1⟩) (k0_pay7 (iblk m c 0 ⟨t.val - 2, h2⟩) (wt0 m c ⟨t.val - 2, h2⟩) (k0_pay4 (iblk m c 0 ⟨t.val - 3, h3⟩) (wt0 m c ⟨t.val - 3, h3⟩)))) (Idealize.ShloMosaic.ix2 p q)
      = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Idealize.ShloMosaic.ix2 ⟨t.val / 4 * 1024 + p.val, by have := point_lt t; omega⟩ ⟨q.val, by omega⟩) := by
  pointwise [k0_pay7, k0_pay4, k0_pay1, refG]
  refine Eq.trans (b := (_ : EReal)) ?_ (sum4 _).symm
  blk_point [wt0, iblk, V, idx_val t, idx_val ⟨t.val - 1, h1⟩, idx_val ⟨t.val - 2, h2⟩, idx_val ⟨t.val - 3, h3⟩]
  all_goals (refine (wt0_at m c _ q _).trans (congrArg (fun k => m ((c : Thread nD τ).loc main_arg0) (Idealize.ShloMosaic.ix2 q k)) (Fin.ext ?_)); dsimp only; omega)

/-- A column of the second branch's gradient. -/
theorem col1 (c : Dev nD) (t : Fin cfg0.N) (h : t.val % 4 = 3) (h1 : t.val - 1 < cfg0.N) (h2 : t.val - 2 < cfg0.N) (h3 : t.val - 3 < cfg0.N) (p : Fin 1024) (q : Fin 128) :
    k0_pay8 (iblk m c 1 t) (wt1 m c t) (k0_pay8 (iblk m c 1 ⟨t.val - 1, h1⟩) (wt1 m c ⟨t.val - 1, h1⟩) (k0_pay8 (iblk m c 1 ⟨t.val - 2, h2⟩) (wt1 m c ⟨t.val - 2, h2⟩) (k0_pay5 (iblk m c 1 ⟨t.val - 3, h3⟩) (wt1 m c ⟨t.val - 3, h3⟩)))) (Idealize.ShloMosaic.ix2 p q)
      = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Idealize.ShloMosaic.ix2 ⟨t.val / 4 * 1024 + p.val, by have := point_lt t; omega⟩ ⟨256 + q.val, by omega⟩) := by
  pointwise [k0_pay8, k0_pay5, k0_pay2, refG]
  refine Eq.trans (b := (_ : EReal)) ?_ (sum4 _).symm
  blk_point [wt1, iblk, V, idx_val t, idx_val ⟨t.val - 1, h1⟩, idx_val ⟨t.val - 2, h2⟩, idx_val ⟨t.val - 3, h3⟩]
  all_goals (refine (wt1_at m c _ q _).trans (congrArg (fun k => m ((c : Thread nD τ).loc main_arg1) (Idealize.ShloMosaic.ix2 q k)) (Fin.ext ?_)); dsimp only; omega)

/-- A column of the third branch's gradient. -/
theorem col2 (c : Dev nD) (t : Fin cfg0.N) (h : t.val % 4 = 3) (h1 : t.val - 1 < cfg0.N) (h2 : t.val - 2 < cfg0.N) (h3 : t.val - 3 < cfg0.N) (p : Fin 1024) (q : Fin 384) :
    k0_pay9 (iblk m c 2 t) (wt2 m c t) (k0_pay9 (iblk m c 2 ⟨t.val - 1, h1⟩) (wt2 m c ⟨t.val - 1, h1⟩) (k0_pay9 (iblk m c 2 ⟨t.val - 2, h2⟩) (wt2 m c ⟨t.val - 2, h2⟩) (k0_pay6 (iblk m c 2 ⟨t.val - 3, h3⟩) (wt2 m c ⟨t.val - 3, h3⟩)))) (Idealize.ShloMosaic.ix2 p q)
      = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Idealize.ShloMosaic.ix2 ⟨t.val / 4 * 1024 + p.val, by have := point_lt t; omega⟩ ⟨384 + q.val, by omega⟩) := by
  pointwise [k0_pay9, k0_pay6, k0_pay3, refG]
  have e : 384 + q.val - 256 - 128 = q.val := by omega
  rw [dif_neg (by omega), dif_neg (by omega)]
  simp only [e, Fin.eta]
  refine Eq.trans (b := (_ : EReal)) ?_ (sum4 _).symm
  blk_point [wt2, iblk, V, idx_val t, idx_val ⟨t.val - 1, h1⟩, idx_val ⟨t.val - 2, h2⟩, idx_val ⟨t.val - 3, h3⟩]
  all_goals (refine (wt2_at m c _ q _).trans (congrArg (fun k => m ((c : Thread nD τ).loc main_arg2) (Idealize.ShloMosaic.ix2 q k)) (Fin.ext ?_)); dsimp only; omega)

/-- The gradients after the run. -/
theorem grad (c : Dev nD) : (dats m 0 c).arrAt 4 (cfgs 0).N
    = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t hf y => ?_
  blk_simp
  have h := (flush0_4 t).mp hf
  have h1 : t.val - 1 < cfg0.N := Nat.lt_of_le_of_lt (Nat.sub_le _ _) t.isLt
  have h2 : t.val - 2 < cfg0.N := Nat.lt_of_le_of_lt (Nat.sub_le _ _) t.isLt
  have h3 : t.val - 3 < cfg0.N := Nat.lt_of_le_of_lt (Nat.sub_le _ _) t.isLt
  have e3 := first m c ⟨t.val - 3, h3⟩ (by show (t.val - 3) % 4 = 0; omega)
  have e2 := next m c ⟨t.val - 2, h2⟩ (by show 1 ≤ (t.val - 2) % 4; omega) (by show ¬(t.val - 2) % 4 = 3; omega) _ _ _ e3
  have e1 := next m c ⟨t.val - 1, h1⟩ (by show 1 ≤ (t.val - 1) % 4; omega) (by show ¬(t.val - 1) % 4 = 3; omega) _ _ _ e2
  rw [after0_4, last m c t h _ _ _ e1]
  clear e1 e2 e3
  have hq : (y 1).val < 768 := (y 1).isLt
  have hy : y = Idealize.ShloMosaic.ix2 (y 0) (y 1) := by funext i; fin_cases i <;> rfl
  have hp : (y 0).val < 1024 := (y 0).isLt
  have he : ∀ k : Fin 768, k.val = (y 1).val → Idealize.ShloMosaic.ix2 ⟨t.val / 4 * 1024 + (y 0).val, by have := point_lt t; omega⟩ k = ((View.whole main_v7).slice (win0_4.rect t)).emb y := by
    intro k hk
    refine Eq.trans ?_ (congrArg (fun w => ((View.whole main_v7).slice (win0_4.rect t)).emb w) hy.symm)
    blk_ext! [idx_val t, hk]
  by_cases l1 : (y 1).val < 256
  · rw [canon0 _ _ _ (Idealize.ShloMosaic.ix2 (y 0) ⟨(y 1).val, l1⟩) _ rfl rfl]
    exact (col0 m c t h h1 h2 h3 _ _).trans (congrArg _ (he _ rfl))
  · by_cases l2 : (y 1).val < 384
    · rw [canon1 _ _ _ (Idealize.ShloMosaic.ix2 (y 0) ⟨(y 1).val - 256, by omega⟩) _ rfl (by show (y 1).val = 256 + ((y 1).val - 256); omega)]
      exact (col1 m c t h h1 h2 h3 _ _).trans (congrArg _ (he _ (by show 256 + ((y 1).val - 256) = (y 1).val; omega)))
    · rw [canon2 _ _ _ (Idealize.ShloMosaic.ix2 (y 0) ⟨(y 1).val - 384, by omega⟩) _ rfl (by show (y 1).val = 384 + ((y 1).val - 384); omega)]
      exact (col2 m c t h h1 h2 h3 _ _).trans (congrArg _ (he _ (by show 384 + ((y 1).val - 384) = (y 1).val; omega)))

end Cert.Kernel13Ideal.BrIn

end
-- ==== Proof.GradBr.lean ====
/- The gradients of the branches' output projections: what each pair of grid points leaves, against the reference's products. -/
module

public import proofs.«01_k».proof.Proof.Gen.Kernel12Ideal.Frame
public import proofs.«01_k».proof.Proof.Gen.Reference12Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel12Ideal.GradBr

open Cert.Kernel12Ideal Cert.Kernel12Ideal.Gen

variable (m : (ℓ : Loc nD τ sig) → Buf (Elt Ideal) ℓ)

/-- The three gradients, one below the other, laid out by chip. -/
abbrev refG (x0 : FVec Ideal S2048x256 .f32) (x1 : FVec Ideal S2048x128 .f32) (x2 : FVec Ideal S2048x384 .f32) (x3 x4 x5 : FVec Ideal S2048x1024 .f32) : FVec Ideal S4x768x256 .bf16 :=
  transpose Cert.Reference12Ideal.S4x768x256 [1, 0, 2] (shapeCast _ (truncf .bf16 ((concatenate Cert.Reference12Ideal.S768x1024 0 [⟨Cert.Reference12Ideal.S256x1024, ((transpose Cert.Reference12Ideal.S256x1024 [1, 0] (Host.dotGeneral Cert.Reference12Ideal.dot_S2048x1024_S2048x256_S1024x256_0_0_1_1_n_n none x3 x0) Cert.Reference12Ideal.Gen.transposes_S1024x256_S256x1024_1_0) : (⟨Cert.Reference12Ideal.S256x1024, .f32⟩ : BufTy).Contents (Elt Ideal))⟩, ⟨Cert.Reference12Ideal.S128x1024, ((transpose Cert.Reference12Ideal.S128x1024 [1, 0] (Host.dotGeneral Cert.Reference12Ideal.dot_S2048x1024_S2048x128_S1024x128_0_0_1_1_n_n none x4 x1) Cert.Reference12Ideal.Gen.transposes_S1024x128_S128x1024_1_0) : (⟨Cert.Reference12Ideal.S128x1024, .f32⟩ : BufTy).Contents (Elt Ideal))⟩, ⟨Cert.Reference12Ideal.S384x1024, ((transpose Cert.Reference12Ideal.S384x1024 [1, 0] (Host.dotGeneral Cert.Reference12Ideal.dot_S2048x1024_S2048x384_S1024x384_0_0_1_1_n_n none x5 x2) Cert.Reference12Ideal.Gen.transposes_S1024x384_S384x1024_1_0) : (⟨Cert.Reference12Ideal.S384x1024, .f32⟩ : BufTy).Contents (Elt Ideal))⟩] Cert.Reference12Ideal.Gen.concatenates_S256x1024_S128x1024_S384x1024_S768x1024_d0 : (⟨Cert.Reference12Ideal.S768x1024, .f32⟩ : BufTy).Contents (Elt Ideal))) Cert.Reference12Ideal.Gen.bitsLt_bf16_f32) Cert.Reference12Ideal.Gen.shapeCasts_S768x1024_S768x4x256) Cert.Reference12Ideal.Gen.transposes_S768x4x256_S4x768x256_1_0_2

theorem idx_val : ∀ t : Fin cfg0.N, win0_0.index t = ![t.val % 2, 0]
    ∧ win0_1.index t = ![t.val % 2, 0]
    ∧ win0_2.index t = ![t.val % 2, 0]
    ∧ win0_3.index t = ![t.val % 2, t.val / 2]
    ∧ win0_4.index t = ![t.val % 2, t.val / 2]
    ∧ win0_5.index t = ![t.val % 2, t.val / 2]
    ∧ win0_6.index t = ![t.val / 2, 0, 0] :=
  (by decide +kernel : ∀ t : Fin grid0.N, _)

/-- The three blocks of the accumulator, as the body stores them. -/
abbrev blocks (w0 : FVec Ideal S256x256 .f32) (w1 : FVec Ideal S128x256 .f32) (w2 : FVec Ideal S384x256 .f32) : List (View.Piece (Elt Ideal) S768x256 .f32) :=
  [⟨Rect.unit ![384, 0] ![384, 256] inb_S768x256_S384x256_384_0, w2⟩, ⟨Rect.unit ![256, 0] ![128, 256] inb_S768x256_S128x256_256_0, w1⟩,
    ⟨Rect.unit ![0, 0] ![256, 256] inb_S768x256_S256x256_0_0, w0⟩]

/-- A value that each of the blocks holding an entry has there is the accumulator's. -/
theorem canon_blocks (w0 : FVec Ideal S256x256 .f32) (w1 : FVec Ideal S128x256 .f32) (w2 : FVec Ideal S384x256 .f32) (y : S768x256.Idx) (v : EReal)
    (h0 : View.TileAt (Val := Elt Ideal) (e := .f32) y ![0, 0] ![256, 256] w0 v) (h1 : View.TileAt (Val := Elt Ideal) (e := .f32) y ![256, 0] ![128, 256] w1 v)
    (h2 : View.TileAt (Val := Elt Ideal) (e := .f32) y ![384, 0] ![384, 256] w2 v) : View.canon (Val := Elt Ideal) (blocks w0 w1 w2) y = v :=
  View.canon_eq_of_allAt _ y v (View.cover_of_tiledBy (blocks w0 w1 w2) ![128, 256] (by sl_kernel_rfl) y)
    (View.allAt_cons_unit _ _ _ _ _ h2 (View.allAt_cons_unit _ _ _ _ _ h1 (View.allAt_cons_unit _ _ _ _ _ h0 (View.allAt_nil _ _))))

theorem canon0 (w0 : FVec Ideal S256x256 .f32) (w1 : FVec Ideal S128x256 .f32) (w2 : FVec Ideal S384x256 .f32) (x : S256x256.Idx) (y : S768x256.Idx)
    (h : (y 0).val = (x 0).val) (h' : (y 1).val = (x 1).val) : View.canon (Val := Elt Ideal) (blocks w0 w1 w2) y = w0 x := by
  have hx : (x 0).val < 256 := (x 0).isLt
  refine canon_blocks w0 w1 w2 y _ (fun z hz => congrArg w0 (funext fun a => Fin.ext ?_)) (fun z hz => ?_) (fun z hz => ?_)
  · have e0 := hz 0
    have e1 := hz 1
    simp at e0 e1
    fin_cases a <;> simp <;> omega
  · have e0 := hz 0
    simp at e0
    omega
  · have e0 := hz 0
    simp at e0
    omega

theorem canon1 (w0 : FVec Ideal S256x256 .f32) (w1 : FVec Ideal S128x256 .f32) (w2 : FVec Ideal S384x256 .f32) (x : S128x256.Idx) (y : S768x256.Idx)
    (h : (y 0).val = 256 + (x 0).val) (h' : (y 1).val = (x 1).val) : View.canon (Val := Elt Ideal) (blocks w0 w1 w2) y = w1 x := by
  have hx : (x 0).val < 128 := (x 0).isLt
  refine canon_blocks w0 w1 w2 y _ (fun z hz => ?_) (fun z hz => congrArg w1 (funext fun a => Fin.ext ?_)) (fun z hz => ?_)
  · have e0 := hz 0
    have hz0 : (z 0).val < 256 := (z 0).isLt
    simp at e0
    omega
  · have e0 := hz 0
    have e1 := hz 1
    simp at e0 e1
    fin_cases a <;> simp <;> omega
  · have e0 := hz 0
    simp at e0
    omega

theorem canon2 (w0 : FVec Ideal S256x256 .f32) (w1 : FVec Ideal S128x256 .f32) (w2 : FVec Ideal S384x256 .f32) (x : S384x256.Idx) (y : S768x256.Idx)
    (h : (y 0).val = 384 + (x 0).val) (h' : (y 1).val = (x 1).val) : View.canon (Val := Elt Ideal) (blocks w0 w1 w2) y = w2 x := by
  have hx : (x 0).val < 384 := (x 0).isLt
  refine canon_blocks w0 w1 w2 y _ (fun z hz => ?_) (fun z hz => ?_) (fun z hz => congrArg w2 (funext fun a => Fin.ext ?_))
  · have e0 := hz 0
    have hz0 : (z 0).val < 256 := (z 0).isLt
    simp at e0
    omega
  · have e0 := hz 0
    have hz0 : (z 0).val < 128 := (z 0).isLt
    simp at e0
    omega
  · have e0 := hz 0
    have e1 := hz 1
    simp at e0 e1
    fin_cases a <;> simp <;> omega

theorem ld0 (w0 : FVec Ideal S256x256 .f32) (w1 : FVec Ideal S128x256 .f32) (w2 : FVec Ideal S384x256 .f32) :
    View.ld (View.canon (Val := Elt Ideal) (blocks w0 w1 w2)) (Rect.unit ![0, 0] ![256, 256] inb_S768x256_S256x256_0_0) = w0 :=
  funext fun x => canon0 w0 w1 w2 x _ (by rw [Rect.idx_unit_val]; simp) (by rw [Rect.idx_unit_val]; simp)

theorem ld1 (w0 : FVec Ideal S256x256 .f32) (w1 : FVec Ideal S128x256 .f32) (w2 : FVec Ideal S384x256 .f32) :
    View.ld (View.canon (Val := Elt Ideal) (blocks w0 w1 w2)) (Rect.unit ![256, 0] ![128, 256] inb_S768x256_S128x256_256_0) = w1 :=
  funext fun x => canon1 w0 w1 w2 x _ (by rw [Rect.idx_unit_val]; simp) (by rw [Rect.idx_unit_val]; simp)

theorem ld2 (w0 : FVec Ideal S256x256 .f32) (w1 : FVec Ideal S128x256 .f32) (w2 : FVec Ideal S384x256 .f32) :
    View.ld (View.canon (Val := Elt Ideal) (blocks w0 w1 w2)) (Rect.unit ![384, 0] ![384, 256] inb_S768x256_S384x256_384_0) = w2 :=
  funext fun x => canon2 w0 w1 w2 x _ (by rw [Rect.idx_unit_val]; simp) (by rw [Rect.idx_unit_val]; simp)

theorem pay_at (w : FVec Ideal S768x256 .f32) (z : Fin 1) (p : Fin 768) (q : Fin 256) :
    @Eq EReal (k0_pay10 (F := Ideal) w (Idealize.ShloMosaic.ix3 z p q)) (w (Idealize.ShloMosaic.ix2 p q)) := by
  pointwise [k0_pay10]

theorem point_lt (t : Fin cfg0.N) : t.val < 8 := t.isLt

/-- A row of the first gradient. -/
theorem row0 (c : Dev nD) (t : Fin cfg0.N) (h : t.val % 2 = 1) (hp : t.val - 1 < cfg0.N) (p : Fin 256) (q : Fin 256) :
    k0_pay7 (iblk m c 0 t) (iblk m c 3 t) (k0_pay4 (iblk m c 0 ⟨t.val - 1, hp⟩) (iblk m c 3 ⟨t.val - 1, hp⟩)) (Idealize.ShloMosaic.ix2 p q)
      = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Idealize.ShloMosaic.ix3 ⟨t.val / 2, by have := point_lt t; omega⟩ ⟨p.val, by omega⟩ q) := by
  pointwise [k0_pay7, k0_pay4, k0_pay1, refG]
  refine Eq.trans (b := (_ : EReal)) ?_ (Finset.sum_congr rfl fun k _ => mul_comm _ _)
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

/-- A row of the second gradient. -/
theorem row1 (c : Dev nD) (t : Fin cfg0.N) (h : t.val % 2 = 1) (hp : t.val - 1 < cfg0.N) (p : Fin 128) (q : Fin 256) :
    k0_pay8 (iblk m c 1 t) (iblk m c 4 t) (k0_pay5 (iblk m c 1 ⟨t.val - 1, hp⟩) (iblk m c 4 ⟨t.val - 1, hp⟩)) (Idealize.ShloMosaic.ix2 p q)
      = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Idealize.ShloMosaic.ix3 ⟨t.val / 2, by have := point_lt t; omega⟩ ⟨256 + p.val, by omega⟩ q) := by
  pointwise [k0_pay8, k0_pay5, k0_pay2, refG]
  refine Eq.trans (b := (_ : EReal)) ?_ (Finset.sum_congr rfl fun k _ => mul_comm _ _)
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

/-- A row of the third gradient. -/
theorem row2 (c : Dev nD) (t : Fin cfg0.N) (h : t.val % 2 = 1) (hp : t.val - 1 < cfg0.N) (p : Fin 384) (q : Fin 256) :
    k0_pay9 (iblk m c 2 t) (iblk m c 5 t) (k0_pay6 (iblk m c 2 ⟨t.val - 1, hp⟩) (iblk m c 5 ⟨t.val - 1, hp⟩)) (Idealize.ShloMosaic.ix2 p q)
      = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Idealize.ShloMosaic.ix3 ⟨t.val / 2, by have := point_lt t; omega⟩ ⟨384 + p.val, by omega⟩ q) := by
  pointwise [k0_pay9, k0_pay6, k0_pay3, refG]
  have e : 384 + p.val - 256 - 128 = p.val := by omega
  rw [dif_neg (by omega), dif_neg (by omega)]
  simp only [e, Fin.eta]
  refine Eq.trans (b := (_ : EReal)) ?_ (Finset.sum_congr rfl fun k _ => mul_comm _ _)
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

/-- The gradients after the run. -/
theorem grad (c : Dev nD) : (dats m 0 c).arrAt 6 (cfgs 0).N
    = refG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have h := (flush0_6 t).mp hf
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega) (by show ¬(t.val - 1) % 2 = 1; omega)
  dsimp only at hA
  rw [after0_6, outsAt0_B m c t (by omega) h h, hA]
  clear hA
  frame_out
  rw [read_unread_whole, ld0, ld1, ld2, View.readCov_eq_canon']
  refine (congrArg (fun w => k0_pay10 w y) (View.ld_unit_lit inb_S768x256_S768x256_0_0 (View.canon (Val := Elt Ideal) (blocks _ _ _)) (fun a => by fin_cases a <;> rfl))).trans ?_
  have hy : y = Idealize.ShloMosaic.ix3 (y 0) (y 1) (y 2) := by funext i; fin_cases i <;> rfl
  have hq : (y 1).val < 768 := (y 1).isLt
  have he : ∀ k : Fin 768, k.val = (y 1).val → Idealize.ShloMosaic.ix3 ⟨t.val / 2, by have := point_lt t; omega⟩ k (y 2) = ((View.whole main_v3).slice (win0_6.rect t)).emb y := by
    intro k hk
    rw [hy]
    blk_ext! [idx_val t, hk]
  refine ((congrArg (k0_pay10 _) hy).trans (pay_at _ _ _ _)).trans ?_
  by_cases h1 : (y 1).val < 256
  · rw [canon0 _ _ _ (Idealize.ShloMosaic.ix2 ⟨(y 1).val, h1⟩ (y 2)) _ rfl rfl]
    exact (row0 m c t h hp _ _).trans (congrArg _ (he _ rfl))
  · by_cases h2 : (y 1).val < 384
    · rw [canon1 _ _ _ (Idealize.ShloMosaic.ix2 ⟨(y 1).val - 256, by omega⟩ (y 2)) _ (by show (y 1).val = 256 + ((y 1).val - 256); omega) rfl]
      exact (row1 m c t h hp _ _).trans (congrArg _ (he _ (by show 256 + ((y 1).val - 256) = (y 1).val; omega)))
    · rw [canon2 _ _ _ (Idealize.ShloMosaic.ix2 ⟨(y 1).val - 384, by omega⟩ (y 2)) _ (by show (y 1).val = 384 + ((y 1).val - 384); omega) rfl]
      exact (row2 m c t h hp _ _).trans (congrArg _ (he _ (by show 384 + ((y 1).val - 384) = (y 1).val; omega)))

end Cert.Kernel12Ideal.GradBr

end
-- ==== Proof.FfnDown.lean ====
/- The second half of the FFN's forward pass: what each grid point leaves, against the reference's product, residual and pre-norm. -/
module

public import proofs.«01_k».proof.Proof.Gen.Kernel9Ideal.Frame
public import proofs.«01_k».proof.Proof.Gen.Reference9Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel9Ideal.FfnDown

open Cert.Kernel9Ideal Cert.Kernel9Ideal.Gen

variable (m : (ℓ : Loc nD τ sig) → Buf (Elt Ideal) ℓ)

/-- The FFN's output. -/
abbrev refF (x0 : FVec Ideal S2048x2816 .f32) (x1 : FVec Ideal S2816x1024 .f32) : FVec Ideal S2048x1024 .f32 :=
  Host.dotGeneral Cert.Reference9Ideal.dot_S2048x2816_S2816x1024_S2048x1024_1_0_0_1_n_n none x0 x1

/-- The residual stream after the FFN. -/
abbrev refX (x0 : FVec Ideal S2048x2816 .f32) (x1 : FVec Ideal S2816x1024 .f32) (x2 : FVec Ideal S2048x1024 .f32) (x3 : FVec Ideal S6x3x1024 .f32) : FVec Ideal S2048x1024 .f32 :=
  addf x2 (mulf (broadcastInDim Cert.Reference9Ideal.S2048x1024 ![0, 1] Cert.Reference9Ideal.Gen.bcast_S1x1024_S2048x1024_0_1 (broadcastInDim Cert.Reference9Ideal.S1x1024 ![1] Cert.Reference9Ideal.Gen.bcast_S1024_S1x1024_1 (mulf (broadcastInDim Cert.Reference9Ideal.S1024 ![] Cert.Reference9Ideal.Gen.bcast_S_S1024 (constant Cert.Reference9Ideal.S_ .f32 0x3F000000#32)) (shapeCast _ (extractStridedSlice Cert.Reference9Ideal.S1x1x1024 ![0, 2, 0] x3 Cert.Reference9Ideal.Gen.slices_S6x3x1024_S1x1x1024_0_2_0) Cert.Reference9Ideal.Gen.shapeCasts_S1x1x1024_S1024)))) (refF x0 x1))

/-- The next unit's pre-norm. -/
abbrev refH (x0 : FVec Ideal S2048x2816 .f32) (x1 : FVec Ideal S2816x1024 .f32) (x2 : FVec Ideal S2048x1024 .f32) (x3 : FVec Ideal S6x3x1024 .f32) (x4 : FVec Ideal S6x1024 .f32) : FVec Ideal S2048x1024 .bf16 :=
  truncf .bf16 (addf (mulf (mulf (mulf (refX x0 x1 x2 x3) (broadcastInDim Cert.Reference9Ideal.S2048x1024 ![0, 1] Cert.Reference9Ideal.Gen.bcast_S2048x1_S2048x1024_0_1 (Host.rsqrt (addf (Host.divf (broadcastInDim Cert.Reference9Ideal.S2048x1 ![0] Cert.Reference9Ideal.Gen.bcast_S2048_S2048x1_0 (Host.reduceAdd (mulf (refX x0 x1 x2 x3) (refX x0 x1 x2 x3)) (constant Cert.Reference9Ideal.S_ .f32 0x00000000#32) Cert.Reference9Ideal.Gen.reducesTo_S2048x1024_S2048_d1 Cert.Reference9Ideal.Gen.h_S_)) (broadcastInDim Cert.Reference9Ideal.S2048x1 ![] Cert.Reference9Ideal.Gen.bcast_S_S2048x1 (constant Cert.Reference9Ideal.S_ .f32 0x44800000#32))) (broadcastInDim Cert.Reference9Ideal.S2048x1 ![] Cert.Reference9Ideal.Gen.bcast_S_S2048x1 (constant Cert.Reference9Ideal.S_ .f32 0x358637BD#32)))))) (broadcastInDim Cert.Reference9Ideal.S2048x1024 ![0, 1] Cert.Reference9Ideal.Gen.bcast_S1x1024_S2048x1024_0_1 (broadcastInDim Cert.Reference9Ideal.S1x1024 ![1] Cert.Reference9Ideal.Gen.bcast_S1024_S1x1024_1 (shapeCast _ (extractStridedSlice Cert.Reference9Ideal.S1x1024 ![1, 0] x4 Cert.Reference9Ideal.Gen.slices_S6x1024_S1x1024_1_0) Cert.Reference9Ideal.Gen.shapeCasts_S1x1024_S1024)))) (broadcastInDim Cert.Reference9Ideal.S2048x1024 ![0, 1] Cert.Reference9Ideal.Gen.bcast_S1x1024_S2048x1024_0_1 (broadcastInDim Cert.Reference9Ideal.S1x1024 ![1] Cert.Reference9Ideal.Gen.bcast_S1024_S1x1024_1 (addf (broadcastInDim Cert.Reference9Ideal.S1024 ![] Cert.Reference9Ideal.Gen.bcast_S_S1024 (constant Cert.Reference9Ideal.S_ .f32 0x3F800000#32)) (shapeCast _ (extractStridedSlice Cert.Reference9Ideal.S1x1x1024 ![1, 1, 0] x3 Cert.Reference9Ideal.Gen.slices_S6x3x1024_S1x1x1024_1_1_0) Cert.Reference9Ideal.Gen.shapeCasts_S1x1x1024_S1024))))) (broadcastInDim Cert.Reference9Ideal.S2048x1024 ![0, 1] Cert.Reference9Ideal.Gen.bcast_S1x1024_S2048x1024_0_1 (broadcastInDim Cert.Reference9Ideal.S1x1024 ![1] Cert.Reference9Ideal.Gen.bcast_S1024_S1x1024_1 (shapeCast _ (extractStridedSlice Cert.Reference9Ideal.S1x1x1024 ![1, 0, 0] x3 Cert.Reference9Ideal.Gen.slices_S6x3x1024_S1x1x1024_1_0_0) Cert.Reference9Ideal.Gen.shapeCasts_S1x1x1024_S1024)))) Cert.Reference9Ideal.Gen.bitsLt_bf16_f32

theorem idx_val : ∀ t : Fin cfg0.N, win0_0.index t = ![0, t.val, 0]
    ∧ win0_1.index t = ![t.val, 0]
    ∧ win0_2.index t = ![2, 0, 0]
    ∧ win0_3.index t = ![1, 0, 0]
    ∧ win0_4.index t = ![4, 0, 0]
    ∧ win0_5.index t = ![3, 0, 0]
    ∧ win0_6.index t = ![t.val, 0]
    ∧ win0_7.index t = ![t.val, 0]
    ∧ win0_8.index t = ![t.val, 0] :=
  (by decide +kernel : ∀ t : Fin grid0.N, _)

theorem point_lt (t : Fin cfg0.N) : t.val < 2 := t.isLt

theorem canon_whole {S : Shape} {e : EltTy} (w : S.Idx → Elt Ideal e) : View.canon (Val := Elt Ideal) [⟨Rect.whole S, w⟩] = w :=
  funext fun y => by
    have h := View.canon_cons_emb (Val := Elt Ideal) (Rect.whole S) w [] y
    rwa [Rect.emb_whole_apply] at h

/-- A load after a copy into the whole buffer reads what was copied. -/
theorem readCov_whole {sg : RefSig} {κ : Kind} {sp : Space} {S : Shape} {e : EltTy} (v : View sg κ sp S e) (w : S.Idx → Elt Ideal e)
    (r : Rect S) : v.readCov (Val := Elt Ideal) [⟨Rect.whole S, w⟩] r.toLoadRect = View.ld w r := by
  rw [View.readCov_eq_canon', canon_whole]

/-- The scratch after a half's first point holds the weights. -/
theorem scratchA (c : Dev nD) (t : Fin cfg0.N) (h0 : t.val % 2 = 0) : (outsAt0 m c t.val t.isLt).2.2.2 = V m c main_v8 := by
  rw [outsAt0_A m c t h0]
  frame_out
  exact canon_whole _

/-- The scratch after each point holds the weights. -/
theorem scratch (c : Dev nD) (t : Fin cfg0.N) : (outsAt0 m c t.val t.isLt).2.2.2 = V m c main_v8 := by
  by_cases h0 : t.val % 2 = 0
  · exact scratchA m c t h0
  · rw [outsAt0_B m c t h0]
    dsimp only
    unfold sout0_B_0
    exact scratchA m c ⟨t.val - 1, Nat.lt_of_le_of_lt (Nat.sub_le _ _) t.isLt⟩ (by have := point_lt t; show (t.val - 1) % 2 = 0; omega)

/-- The product of the block's rows with the weights. -/
abbrev blockF (c : Dev nD) (t : Fin cfg0.N) : FVec Ideal S1024x1024 .f32 :=
  k0_pay1 (View.ld (iblk m c 0 t) (Rect.unit ![0, 0, 0] ![1, 1024, 704] inb_S4x1024x704_S1x1024x704_0_0_0))
    (View.ld (V m c main_v8) (Rect.unit ![0, 0, 0] ![1, 704, 1024] inb_S4x704x1024_S1x704x1024_0_0_0))
    (View.ld (iblk m c 0 t) (Rect.unit ![1, 0, 0] ![1, 1024, 704] inb_S4x1024x704_S1x1024x704_1_0_0))
    (View.ld (V m c main_v8) (Rect.unit ![1, 0, 0] ![1, 704, 1024] inb_S4x704x1024_S1x704x1024_1_0_0))
    (View.ld (iblk m c 0 t) (Rect.unit ![2, 0, 0] ![1, 1024, 704] inb_S4x1024x704_S1x1024x704_2_0_0))
    (View.ld (V m c main_v8) (Rect.unit ![2, 0, 0] ![1, 704, 1024] inb_S4x704x1024_S1x704x1024_2_0_0))
    (View.ld (iblk m c 0 t) (Rect.unit ![3, 0, 0] ![1, 1024, 704] inb_S4x1024x704_S1x1024x704_3_0_0))
    (View.ld (V m c main_v8) (Rect.unit ![3, 0, 0] ![1, 704, 1024] inb_S4x704x1024_S1x704x1024_3_0_0))

/-- What each point leaves in the three results' blocks. -/
theorem outs (c : Dev nD) (t : Fin cfg0.N) : (outsAt0 m c t.val t.isLt).1 = blockF m c t
    ∧ (outsAt0 m c t.val t.isLt).2.1 = k0_pay2 (blockF m c t) (iblk m c 1 t) (iblk m c 2 t)
    ∧ (outsAt0 m c t.val t.isLt).2.2.1 = k0_pay3 (blockF m c t) (iblk m c 1 t) (iblk m c 2 t) (iblk m c 3 t) (iblk m c 4 t) (iblk m c 5 t) := by
  by_cases h0 : t.val % 2 = 0
  · rw [outsAt0_A m c t h0]
    refine ⟨?_, ?_, ?_⟩
    all_goals (frame_out; simp only [readCov_whole]; rfl)
  · have hs := scratch m c ⟨t.val - 1, Nat.lt_of_le_of_lt (Nat.sub_le _ _) t.isLt⟩
    dsimp only at hs
    rw [outsAt0_B m c t h0]
    refine ⟨?_, ?_, ?_⟩
    all_goals (frame_out; rw [hs]; simp only [read_unread_whole]; rfl)

theorem sum4 (f : Fin 2816 → EReal) : ∑ k, f k = ∑ k : Fin 704, f ⟨k.val, by omega⟩ + ∑ k : Fin 704, f ⟨704 + k.val, by omega⟩
    + ∑ k : Fin 704, f ⟨1408 + k.val, by omega⟩ + ∑ k : Fin 704, f ⟨2112 + k.val, by omega⟩ :=
  (Fin.sum_univ_add (a := 2112) (b := 704) f).trans (congrArg₂ HAdd.hAdd ((Fin.sum_univ_add (a := 1408) (b := 704) _).trans
    (congrArg₂ HAdd.hAdd (Fin.sum_univ_add (a := 704) (b := 704) _) rfl)) rfl)

/-- The weights, laid out by chip. -/
theorem entryV (c : Dev nD) (z : Fin 4) (x : Fin 704) (q : Fin 1024) : V m c main_v8 (Idealize.ShloMosaic.ix3 z x q)
    = m ((c : Thread nD τ).loc main_arg1) (Idealize.ShloMosaic.ix2 ⟨z.val * 704 + x.val, by omega⟩ q) := by
  entry_read
  pointwise

theorem at_block (c : Dev nD) (t : Fin cfg0.N) (p q : Fin 1024) : blockF m c t (Idealize.ShloMosaic.ix2 p q)
    = refF (m ((c : Thread nD τ).loc main_arg0)) (m ((c : Thread nD τ).loc main_arg1))
      (Idealize.ShloMosaic.ix2 ⟨t.val * 1024 + p.val, by have := point_lt t; omega⟩ q) := by
  pointwise [blockF, k0_pay1, refF]
  refine Eq.trans (b := (_ : EReal)) ?_ (sum4 _).symm
  blk_point [iblk, V, idx_val t]
  all_goals (refine (entryV m c _ _ _).trans (congrArg (fun k => m ((c : Thread nD τ).loc main_arg1) (Idealize.ShloMosaic.ix2 k q)) (Fin.ext ?_)); simp)

/-- The residual, block by block. -/
theorem at_resid (c : Dev nD) (t : Fin cfg0.N) (p q : Fin 1024) :
    k0_pay2 (blockF m c t) (iblk m c 1 t) (iblk m c 2 t) (Idealize.ShloMosaic.ix2 p q)
    = refX (m ((c : Thread nD τ).loc main_arg0)) (m ((c : Thread nD τ).loc main_arg1)) (m ((c : Thread nD τ).loc main_arg2)) (m ((c : Thread nD τ).loc main_arg3))
      (Idealize.ShloMosaic.ix2 ⟨t.val * 1024 + p.val, by have := point_lt t; omega⟩ q) := by
  have h := at_block m c t p q
  unfold refX
  generalize blockF m c t = B at h ⊢
  generalize refF (m ((c : Thread nD τ).loc main_arg0)) (m ((c : Thread nD τ).loc main_arg1)) = R at h ⊢
  pointwise [k0_pay2]
  rw [h]
  blk_point [iblk, V, idx_val t]

/-- The pre-norm, block by block. -/
theorem at_norm (c : Dev nD) (t : Fin cfg0.N) (p q : Fin 1024) :
    k0_pay3 (blockF m c t) (iblk m c 1 t) (iblk m c 2 t) (iblk m c 3 t) (iblk m c 4 t) (iblk m c 5 t) (Idealize.ShloMosaic.ix2 p q)
    = refH (m ((c : Thread nD τ).loc main_arg0)) (m ((c : Thread nD τ).loc main_arg1)) (m ((c : Thread nD τ).loc main_arg2)) (m ((c : Thread nD τ).loc main_arg3)) (m ((c : Thread nD τ).loc main_arg4))
      (Idealize.ShloMosaic.ix2 ⟨t.val * 1024 + p.val, by have := point_lt t; omega⟩ q) := by
  have h := at_resid m c t p
  unfold refH k0_pay3
  generalize k0_pay2 (blockF m c t) (iblk m c 1 t) (iblk m c 2 t) = B at h ⊢
  generalize refX (m ((c : Thread nD τ).loc main_arg0)) (m ((c : Thread nD τ).loc main_arg1)) (m ((c : Thread nD τ).loc main_arg2)) (m ((c : Thread nD τ).loc main_arg3)) = R at h ⊢
  pointwise
  simp only [h]
  blk_point [iblk, V, idx_val t]

/-- The product after the run. -/
theorem prod (c : Dev nD) : (dats m 0 c).arrAt 6 (cfgs 0).N
    = refF (m ((c : Thread nD τ).loc main_arg0)) (m ((c : Thread nD τ).loc main_arg1)) := by
  refine (dats m 0 c).arrAt_eq_of_covers 6 _ (by decide +kernel) fun t _ y => ?_
  blk_simp
  rw [after0_6, (outs m c t).1]
  have hy : y = Idealize.ShloMosaic.ix2 (y 0) (y 1) := by funext i; fin_cases i <;> rfl
  rw [hy]
  refine (at_block m c t _ _).trans (congrArg _ ?_)
  blk_ext! [idx_val t]

/-- The residual after the run. -/
theorem resid (c : Dev nD) : (dats m 0 c).arrAt 7 (cfgs 0).N
    = refX (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, (outs m c t).2.1]
  have hy : y = Idealize.ShloMosaic.ix2 (y 0) (y 1) := by funext i; fin_cases i <;> rfl
  rw [hy]
  refine (at_resid m c t _ _).trans (congrArg _ ?_)
  blk_ext! [idx_val t]

/-- The pre-norm after the run. -/
theorem norm (c : Dev nD) : (dats m 0 c).arrAt 8 (cfgs 0).N
    = refH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8, (outs m c t).2.2]
  have hy : y = Idealize.ShloMosaic.ix2 (y 0) (y 1) := by funext i; fin_cases i <;> rfl
  rw [hy]
  refine (at_norm m c t _ _).trans (congrArg _ ?_)
  blk_ext! [idx_val t]

end Cert.Kernel9Ideal.FfnDown

end
-- ==== Proof.OutProj.lean ====
/- The mixer's output projection: what each grid point leaves, against the reference's product, residual and pre-norm. -/
module

public import proofs.«01_k».proof.Proof.Gen.Kernel11Ideal.Frame
public import proofs.«01_k».proof.Proof.Gen.Reference11Ideal
public import proofs.«01_k».proof.Proof.FfnDown
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel11Ideal.OutProj

open Cert.Kernel11Ideal Cert.Kernel11Ideal.Gen

variable (m : (ℓ : Loc nD τ sig) → Buf (Elt Ideal) ℓ)

/-- The output projection. -/
abbrev refF (x0 : FVec Ideal S2048x1024 .f32) (x1 : FVec Ideal S1024x1024 .f32) : FVec Ideal S2048x1024 .f32 :=
  Host.dotGeneral Cert.Reference11Ideal.dot_S2048x1024_S1024x1024_S2048x1024_1_0_0_1_n_n none x0 x1

/-- The residual stream after the mixer. -/
abbrev refX (x0 : FVec Ideal S2048x1024 .f32) (x1 : FVec Ideal S1024x1024 .f32) (x2 : FVec Ideal S2048x1024 .f32) (x3 : FVec Ideal S6x3x1024 .f32) : FVec Ideal S2048x1024 .f32 :=
  addf x2 (mulf (broadcastInDim Cert.Reference11Ideal.S2048x1024 ![0, 1] Cert.Reference11Ideal.Gen.bcast_S1x1024_S2048x1024_0_1 (broadcastInDim Cert.Reference11Ideal.S1x1024 ![1] Cert.Reference11Ideal.Gen.bcast_S1024_S1x1024_1 (shapeCast _ (extractStridedSlice Cert.Reference11Ideal.S1x1x1024 ![1, 2, 0] x3 Cert.Reference11Ideal.Gen.slices_S6x3x1024_S1x1x1024_1_2_0) Cert.Reference11Ideal.Gen.shapeCasts_S1x1x1024_S1024))) (refF x0 x1))

/-- The next unit's pre-norm. -/
abbrev refH (x0 : FVec Ideal S2048x1024 .f32) (x1 : FVec Ideal S1024x1024 .f32) (x2 : FVec Ideal S2048x1024 .f32) (x3 : FVec Ideal S6x3x1024 .f32) (x4 : FVec Ideal S6x1024 .f32) : FVec Ideal S2048x1024 .bf16 :=
  truncf .bf16 (addf (mulf (mulf (mulf (refX x0 x1 x2 x3) (broadcastInDim Cert.Reference11Ideal.S2048x1024 ![0, 1] Cert.Reference11Ideal.Gen.bcast_S2048x1_S2048x1024_0_1 (Host.rsqrt (addf (Host.divf (broadcastInDim Cert.Reference11Ideal.S2048x1 ![0] Cert.Reference11Ideal.Gen.bcast_S2048_S2048x1_0 (Host.reduceAdd (mulf (refX x0 x1 x2 x3) (refX x0 x1 x2 x3)) (constant Cert.Reference11Ideal.S_ .f32 0x00000000#32) Cert.Reference11Ideal.Gen.reducesTo_S2048x1024_S2048_d1 Cert.Reference11Ideal.Gen.h_S_)) (broadcastInDim Cert.Reference11Ideal.S2048x1 ![] Cert.Reference11Ideal.Gen.bcast_S_S2048x1 (constant Cert.Reference11Ideal.S_ .f32 0x44800000#32))) (broadcastInDim Cert.Reference11Ideal.S2048x1 ![] Cert.Reference11Ideal.Gen.bcast_S_S2048x1 (constant Cert.Reference11Ideal.S_ .f32 0x358637BD#32)))))) (broadcastInDim Cert.Reference11Ideal.S2048x1024 ![0, 1] Cert.Reference11Ideal.Gen.bcast_S1x1024_S2048x1024_0_1 (broadcastInDim Cert.Reference11Ideal.S1x1024 ![1] Cert.Reference11Ideal.Gen.bcast_S1024_S1x1024_1 (shapeCast _ (extractStridedSlice Cert.Reference11Ideal.S1x1024 ![2, 0] x4 Cert.Reference11Ideal.Gen.slices_S6x1024_S1x1024_2_0) Cert.Reference11Ideal.Gen.shapeCasts_S1x1024_S1024)))) (broadcastInDim Cert.Reference11Ideal.S2048x1024 ![0, 1] Cert.Reference11Ideal.Gen.bcast_S1x1024_S2048x1024_0_1 (broadcastInDim Cert.Reference11Ideal.S1x1024 ![1] Cert.Reference11Ideal.Gen.bcast_S1024_S1x1024_1 (addf (broadcastInDim Cert.Reference11Ideal.S1024 ![] Cert.Reference11Ideal.Gen.bcast_S_S1024 (constant Cert.Reference11Ideal.S_ .f32 0x3F800000#32)) (shapeCast _ (extractStridedSlice Cert.Reference11Ideal.S1x1x1024 ![2, 1, 0] x3 Cert.Reference11Ideal.Gen.slices_S6x3x1024_S1x1x1024_2_1_0) Cert.Reference11Ideal.Gen.shapeCasts_S1x1x1024_S1024))))) (broadcastInDim Cert.Reference11Ideal.S2048x1024 ![0, 1] Cert.Reference11Ideal.Gen.bcast_S1x1024_S2048x1024_0_1 (broadcastInDim Cert.Reference11Ideal.S1x1024 ![1] Cert.Reference11Ideal.Gen.bcast_S1024_S1x1024_1 (shapeCast _ (extractStridedSlice Cert.Reference11Ideal.S1x1x1024 ![2, 0, 0] x3 Cert.Reference11Ideal.Gen.slices_S6x3x1024_S1x1x1024_2_0_0) Cert.Reference11Ideal.Gen.shapeCasts_S1x1x1024_S1024)))) Cert.Reference11Ideal.Gen.bitsLt_bf16_f32

theorem idx_val : ∀ t : Fin cfg0.N, win0_0.index t = ![t.val, 0]
    ∧ win0_1.index t = ![t.val, 0]
    ∧ win0_2.index t = ![5, 0, 0]
    ∧ win0_3.index t = ![2, 0, 0]
    ∧ win0_4.index t = ![7, 0, 0]
    ∧ win0_5.index t = ![6, 0, 0]
    ∧ win0_6.index t = ![t.val, 0]
    ∧ win0_7.index t = ![t.val, 0]
    ∧ win0_8.index t = ![t.val, 0] :=
  (by decide +kernel : ∀ t : Fin grid0.N, _)

theorem point_lt (t : Fin cfg0.N) : t.val < 2 := t.isLt

/-- The scratch after a half's first point holds the weights. -/
theorem scratchA (c : Dev nD) (t : Fin cfg0.N) (h0 : t.val % 2 = 0) : (outsAt0 m c t.val t.isLt).2.2.2 = V m c main_v6 := by
  rw [outsAt0_A m c t h0]
  frame_out
  exact Cert.Kernel9Ideal.FfnDown.canon_whole _

/-- The scratch after each point holds the weights. -/
theorem scratch (c : Dev nD) (t : Fin cfg0.N) : (outsAt0 m c t.val t.isLt).2.2.2 = V m c main_v6 := by
  by_cases h0 : t.val % 2 = 0
  · exact scratchA m c t h0
  · rw [outsAt0_B m c t h0]
    dsimp only
    unfold sout0_B_0
    exact scratchA m c ⟨t.val - 1, Nat.lt_of_le_of_lt (Nat.sub_le _ _) t.isLt⟩ (by have := point_lt t; show (t.val - 1) % 2 = 0; omega)

/-- The product of the block's rows with the weights. -/
abbrev blockF (c : Dev nD) (t : Fin cfg0.N) : FVec Ideal S1024x1024 .f32 :=
  k0_pay3 (View.ld (iblk m c 0 t) (Rect.unit ![0, 0] ![1024, 256] inb_S1024x1024_S1024x256_0_0))
    (View.ld (V m c main_v6) (Rect.unit ![0, 0, 0] ![1, 256, 1024] inb_S4x256x1024_S1x256x1024_0_0_0))
    (View.ld (iblk m c 0 t) (Rect.unit ![0, 256] ![1024, 256] inb_S1024x1024_S1024x256_0_256))
    (View.ld (V m c main_v6) (Rect.unit ![1, 0, 0] ![1, 256, 1024] inb_S4x256x1024_S1x256x1024_1_0_0))
    (View.ld (iblk m c 0 t) (Rect.unit ![0, 512] ![1024, 256] inb_S1024x1024_S1024x256_0_512))
    (View.ld (V m c main_v6) (Rect.unit ![2, 0, 0] ![1, 256, 1024] inb_S4x256x1024_S1x256x1024_2_0_0))
    (View.ld (iblk m c 0 t) (Rect.unit ![0, 768] ![1024, 256] inb_S1024x1024_S1024x256_0_768))
    (View.ld (V m c main_v6) (Rect.unit ![3, 0, 0] ![1, 256, 1024] inb_S4x256x1024_S1x256x1024_3_0_0))

/-- What each point leaves in the three results' blocks. -/
theorem outs (c : Dev nD) (t : Fin cfg0.N) : (outsAt0 m c t.val t.isLt).1 = blockF m c t
    ∧ (outsAt0 m c t.val t.isLt).2.1 = k0_pay1 (blockF m c t) (iblk m c 1 t) (iblk m c 2 t)
    ∧ (outsAt0 m c t.val t.isLt).2.2.1 = k0_pay2 (blockF m c t) (iblk m c 1 t) (iblk m c 2 t) (iblk m c 3 t) (iblk m c 4 t) (iblk m c 5 t) := by
  by_cases h0 : t.val % 2 = 0
  · rw [outsAt0_A m c t h0]
    refine ⟨?_, ?_, ?_⟩
    all_goals (frame_out; simp only [Cert.Kernel9Ideal.FfnDown.readCov_whole]; rfl)
  · have hs := scratch m c ⟨t.val - 1, Nat.lt_of_le_of_lt (Nat.sub_le _ _) t.isLt⟩
    dsimp only at hs
    rw [outsAt0_B m c t h0]
    refine ⟨?_, ?_, ?_⟩
    all_goals (frame_out; rw [hs]; simp only [read_unread_whole]; rfl)

theorem sum4 (f : Fin 1024 → EReal) : ∑ k, f k = ∑ k : Fin 256, f ⟨k.val, by omega⟩ + ∑ k : Fin 256, f ⟨256 + k.val, by omega⟩
    + ∑ k : Fin 256, f ⟨512 + k.val, by omega⟩ + ∑ k : Fin 256, f ⟨768 + k.val, by omega⟩ :=
  (Fin.sum_univ_add (a := 768) (b := 256) f).trans (congrArg₂ HAdd.hAdd ((Fin.sum_univ_add (a := 512) (b := 256) _).trans
    (congrArg₂ HAdd.hAdd (Fin.sum_univ_add (a := 256) (b := 256) _) rfl)) rfl)

/-- The weights, laid out by chip. -/
theorem entryV (c : Dev nD) (z : Fin 4) (x : Fin 256) (q : Fin 1024) : V m c main_v6 (Idealize.ShloMosaic.ix3 z x q)
    = m ((c : Thread nD τ).loc main_arg1) (Idealize.ShloMosaic.ix2 ⟨z.val * 256 + x.val, by omega⟩ q) := by
  entry_read
  pointwise

theorem at_block (c : Dev nD) (t : Fin cfg0.N) (p q : Fin 1024) : blockF m c t (Idealize.ShloMosaic.ix2 p q)
    = refF (m ((c : Thread nD τ).loc main_arg0)) (m ((c : Thread nD τ).loc main_arg1))
      (Idealize.ShloMosaic.ix2 ⟨t.val * 1024 + p.val, by have := point_lt t; omega⟩ q) := by
  pointwise [blockF, k0_pay3, refF]
  refine Eq.trans (b := (_ : EReal)) ?_ (sum4 _).symm
  blk_point [iblk, V, idx_val t]
  all_goals (refine (entryV m c _ _ _).trans (congrArg (fun k => m ((c : Thread nD τ).loc main_arg1) (Idealize.ShloMosaic.ix2 k q)) (Fin.ext ?_)); simp)

/-- The residual, block by block. -/
theorem at_resid (c : Dev nD) (t : Fin cfg0.N) (p q : Fin 1024) :
    k0_pay1 (blockF m c t) (iblk m c 1 t) (iblk m c 2 t) (Idealize.ShloMosaic.ix2 p q)
    = refX (m ((c : Thread nD τ).loc main_arg0)) (m ((c : Thread nD τ).loc main_arg1)) (m ((c : Thread nD τ).loc main_arg2)) (m ((c : Thread nD τ).loc main_arg3))
      (Idealize.ShloMosaic.ix2 ⟨t.val * 1024 + p.val, by have := point_lt t; omega⟩ q) := by
  have h := at_block m c t p q
  unfold refX
  generalize blockF m c t = B at h ⊢
  generalize refF (m ((c : Thread nD τ).loc main_arg0)) (m ((c : Thread nD τ).loc main_arg1)) = R at h ⊢
  pointwise [k0_pay1]
  rw [h]
  blk_point [iblk, V, idx_val t]

/-- The pre-norm, block by block. -/
theorem at_norm (c : Dev nD) (t : Fin cfg0.N) (p q : Fin 1024) :
    k0_pay2 (blockF m c t) (iblk m c 1 t) (iblk m c 2 t) (iblk m c 3 t) (iblk m c 4 t) (iblk m c 5 t) (Idealize.ShloMosaic.ix2 p q)
    = refH (m ((c : Thread nD τ).loc main_arg0)) (m ((c : Thread nD τ).loc main_arg1)) (m ((c : Thread nD τ).loc main_arg2)) (m ((c : Thread nD τ).loc main_arg3)) (m ((c : Thread nD τ).loc main_arg4))
      (Idealize.ShloMosaic.ix2 ⟨t.val * 1024 + p.val, by have := point_lt t; omega⟩ q) := by
  have h := at_resid m c t p
  unfold refH k0_pay2
  generalize k0_pay1 (blockF m c t) (iblk m c 1 t) (iblk m c 2 t) = B at h ⊢
  generalize refX (m ((c : Thread nD τ).loc main_arg0)) (m ((c : Thread nD τ).loc main_arg1)) (m ((c : Thread nD τ).loc main_arg2)) (m ((c : Thread nD τ).loc main_arg3)) = R at h ⊢
  pointwise
  simp only [h]
  blk_point [iblk, V, idx_val t]

/-- The product after the run. -/
theorem prod (c : Dev nD) : (dats m 0 c).arrAt 6 (cfgs 0).N
    = refF (m ((c : Thread nD τ).loc main_arg0)) (m ((c : Thread nD τ).loc main_arg1)) := by
  refine (dats m 0 c).arrAt_eq_of_covers 6 _ (by decide +kernel) fun t _ y => ?_
  blk_simp
  rw [after0_6, (outs m c t).1]
  have hy : y = Idealize.ShloMosaic.ix2 (y 0) (y 1) := by funext i; fin_cases i <;> rfl
  rw [hy]
  refine (at_block m c t _ _).trans (congrArg _ ?_)
  blk_ext! [idx_val t]

/-- The residual after the run. -/
theorem resid (c : Dev nD) : (dats m 0 c).arrAt 7 (cfgs 0).N
    = refX (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, (outs m c t).2.1]
  have hy : y = Idealize.ShloMosaic.ix2 (y 0) (y 1) := by funext i; fin_cases i <;> rfl
  rw [hy]
  refine (at_resid m c t _ _).trans (congrArg _ ?_)
  blk_ext! [idx_val t]

/-- The pre-norm after the run. -/
theorem norm (c : Dev nD) : (dats m 0 c).arrAt 8 (cfgs 0).N
    = refH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8, (outs m c t).2.2]
  have hy : y = Idealize.ShloMosaic.ix2 (y 0) (y 1) := by funext i; fin_cases i <;> rfl
  rw [hy]
  refine (at_norm m c t _ _).trans (congrArg _ ?_)
  blk_ext! [idx_val t]

end Cert.Kernel11Ideal.OutProj

end
-- ==== Proof.GradOut.lean ====
/- The gradient of the output projection's weight: what each pair of grid points leaves, against the reference's product. -/
module

public import proofs.«01_k».proof.Proof.Gen.Kernel10Ideal.Frame
public import proofs.«01_k».proof.Proof.Gen.Reference10Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel10Ideal.GradOut

open Cert.Kernel10Ideal Cert.Kernel10Ideal.Gen

variable (m : (ℓ : Loc nD τ sig) → Buf (Elt Ideal) ℓ)

/-- The gradient, laid out by chip. -/
abbrev refG (x0 : FVec Ideal S2048x1024 .f32) (x1 : FVec Ideal S2048x1024 .f32) : FVec Ideal S4x256x1024 .bf16 :=
  shapeCast _ (truncf .bf16 (transpose Cert.Reference10Ideal.S1024x1024 [1, 0] (Host.dotGeneral Cert.Reference10Ideal.dot_S2048x1024_S2048x1024_S1024x1024_0_0_1_1_n_n none x1 x0) Cert.Reference10Ideal.Gen.transposes_S1024x1024_S1024x1024_1_0) Cert.Reference10Ideal.Gen.bitsLt_bf16_f32) Cert.Reference10Ideal.Gen.shapeCasts_S1024x1024_S4x256x1024

theorem idx_val : ∀ t : Fin cfg0.N, win0_0.index t = ![t.val % 2, t.val / 2]
    ∧ win0_1.index t = ![t.val % 2, 0]
    ∧ win0_2.index t = ![t.val / 2, 0, 0] :=
  (by decide +kernel : ∀ t : Fin grid0.N, _)

/-- The gradient after the run. -/
theorem grad (c : Dev nD) : (dats m 0 c).arrAt 2 (cfgs 0).N
    = refG (m ((c : Thread nD τ).loc main_arg0)) (m ((c : Thread nD τ).loc main_arg1)) := by
  refine (dats m 0 c).arrAt_eq_of_covers 2 _ (by decide +kernel) fun t hf y => ?_
  blk_simp
  have h := (flush0_2 t).mp hf
  have hp : t.val - 1 < cfg0.N := Nat.lt_of_le_of_lt (Nat.sub_le _ _) t.isLt
  have hA := outsAt0_A m c ⟨t.val - 1, hp⟩ (by show (t.val - 1) % 2 = 0; omega) (by show ¬(t.val - 1) % 2 = 1; omega) (by show ¬(t.val - 1) % 2 = 1; omega)
  dsimp only at hA
  rw [after0_2, outsAt0_B m c t (by omega) h h, hA]
  clear hA
  frame_out
  rw [read_unread_whole]
  pointwise [k0_pay3, k0_pay2, k0_pay1, refG]
  refine Eq.trans (b := (_ : EReal)) ?_ (Finset.sum_congr rfl fun k _ => mul_comm _ _)
  refine Eq.trans (b := (_ : EReal)) ?_ (Fin.sum_univ_add (a := 1024) (b := 1024) _).symm
  blk_point [iblk, V, idx_val t, idx_val ⟨t.val - 1, hp⟩]
  all_goals (simp only [Fin.val_castAdd, Fin.val_natAdd]; omega)

end Cert.Kernel10Ideal.GradOut

end
-- ==== Proof.MergeBwd.lean ====
/- The gradients of the gated merge: what each grid point leaves, against the reference's derivative. -/
module

public import proofs.«01_k».proof.Proof.Gen.Kernel8Ideal.Frame
public import proofs.«01_k».proof.Proof.Gen.Reference8Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel8Ideal.MergeBwd

open Cert.Kernel8Ideal Cert.Kernel8Ideal.Gen

variable (m : (ℓ : Loc nD τ sig) → Buf (Elt Ideal) ℓ)

/-- Ones. -/
abbrev one : FVec Ideal S2048x1024 .f32 := broadcastInDim Cert.Reference8Ideal.S2048x1024 ![] Cert.Reference8Ideal.Gen.bcast_S_S2048x1024 (constant Cert.Reference8Ideal.S_ .f32 0x3F800000#32)

/-- The logistic function, entry by entry. -/
abbrev logistic (g : FVec Ideal S2048x1024 .f32) : FVec Ideal S2048x1024 .f32 := Host.divf one (addf one (Host.exp (Host.negf g)))

/-- The gradient of the first branch's product. -/
abbrev refU0 (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) (x7 : FVec Ideal S1024x1024 .f32) (x8 : FVec Ideal S2048x1024 .f32) : FVec Ideal S2048x1024 .bf16 :=
  truncf .bf16 (mulf (logistic (extractStridedSlice Cert.Reference8Ideal.S2048x1024 ![0, 2560] x6 Cert.Reference8Ideal.Gen.slices_S2048x5632_S2048x1024_0_2560)) (Host.dotGeneral Cert.Reference8Ideal.dot_S2048x1024_S1024x1024_S2048x1024_1_1_0_0_n_n none x8 x7)) Cert.Reference8Ideal.Gen.bitsLt_bf16_f32

/-- The gradient of the first branch's gate. -/
abbrev refG0 (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) (x7 : FVec Ideal S1024x1024 .f32) (x8 : FVec Ideal S2048x1024 .f32) : FVec Ideal S2048x1024 .bf16 :=
  truncf .bf16 (mulf (mulf (Host.dotGeneral Cert.Reference8Ideal.dot_S2048x1024_S1024x1024_S2048x1024_1_1_0_0_n_n none x8 x7) (Host.dotGeneral Cert.Reference8Ideal.dot_S2048x256_S256x1024_S2048x1024_1_0_0_1_n_n none x0 x3)) (mulf (logistic (extractStridedSlice Cert.Reference8Ideal.S2048x1024 ![0, 2560] x6 Cert.Reference8Ideal.Gen.slices_S2048x5632_S2048x1024_0_2560)) (subf one (logistic (extractStridedSlice Cert.Reference8Ideal.S2048x1024 ![0, 2560] x6 Cert.Reference8Ideal.Gen.slices_S2048x5632_S2048x1024_0_2560))))) Cert.Reference8Ideal.Gen.bitsLt_bf16_f32

/-- The gradient of the second branch's product. -/
abbrev refU1 (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) (x7 : FVec Ideal S1024x1024 .f32) (x8 : FVec Ideal S2048x1024 .f32) : FVec Ideal S2048x1024 .bf16 :=
  truncf .bf16 (mulf (logistic (extractStridedSlice Cert.Reference8Ideal.S2048x1024 ![0, 3584] x6 Cert.Reference8Ideal.Gen.slices_S2048x5632_S2048x1024_0_3584)) (Host.dotGeneral Cert.Reference8Ideal.dot_S2048x1024_S1024x1024_S2048x1024_1_1_0_0_n_n none x8 x7)) Cert.Reference8Ideal.Gen.bitsLt_bf16_f32

/-- The gradient of the second branch's gate. -/
abbrev refG1 (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) (x7 : FVec Ideal S1024x1024 .f32) (x8 : FVec Ideal S2048x1024 .f32) : FVec Ideal S2048x1024 .bf16 :=
  truncf .bf16 (mulf (mulf (Host.dotGeneral Cert.Reference8Ideal.dot_S2048x1024_S1024x1024_S2048x1024_1_1_0_0_n_n none x8 x7) (Host.dotGeneral Cert.Reference8Ideal.dot_S2048x128_S128x1024_S2048x1024_1_0_0_1_n_n none x1 x4)) (mulf (logistic (extractStridedSlice Cert.Reference8Ideal.S2048x1024 ![0, 3584] x6 Cert.Reference8Ideal.Gen.slices_S2048x5632_S2048x1024_0_3584)) (subf one (logistic (extractStridedSlice Cert.Reference8Ideal.S2048x1024 ![0, 3584] x6 Cert.Reference8Ideal.Gen.slices_S2048x5632_S2048x1024_0_3584))))) Cert.Reference8Ideal.Gen.bitsLt_bf16_f32

/-- The gradient of the third branch's product. -/
abbrev refU2 (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) (x7 : FVec Ideal S1024x1024 .f32) (x8 : FVec Ideal S2048x1024 .f32) : FVec Ideal S2048x1024 .bf16 :=
  truncf .bf16 (mulf (logistic (extractStridedSlice Cert.Reference8Ideal.S2048x1024 ![0, 4608] x6 Cert.Reference8Ideal.Gen.slices_S2048x5632_S2048x1024_0_4608)) (Host.dotGeneral Cert.Reference8Ideal.dot_S2048x1024_S1024x1024_S2048x1024_1_1_0_0_n_n none x8 x7)) Cert.Reference8Ideal.Gen.bitsLt_bf16_f32

/-- The gradient of the third branch's gate. -/
abbrev refG2 (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) (x7 : FVec Ideal S1024x1024 .f32) (x8 : FVec Ideal S2048x1024 .f32) : FVec Ideal S2048x1024 .bf16 :=
  truncf .bf16 (mulf (mulf (Host.dotGeneral Cert.Reference8Ideal.dot_S2048x1024_S1024x1024_S2048x1024_1_1_0_0_n_n none x8 x7) (Host.dotGeneral Cert.Reference8Ideal.dot_S2048x384_S384x1024_S2048x1024_1_0_0_1_n_n none x2 x5)) (mulf (logistic (extractStridedSlice Cert.Reference8Ideal.S2048x1024 ![0, 4608] x6 Cert.Reference8Ideal.Gen.slices_S2048x5632_S2048x1024_0_4608)) (subf one (logistic (extractStridedSlice Cert.Reference8Ideal.S2048x1024 ![0, 4608] x6 Cert.Reference8Ideal.Gen.slices_S2048x5632_S2048x1024_0_4608))))) Cert.Reference8Ideal.Gen.bitsLt_bf16_f32

theorem idx_val : ∀ t : Fin cfg0.N, win0_0.index t = ![t.val % 2, 0]
    ∧ win0_1.index t = ![t.val / 2, 0, 0]
    ∧ win0_2.index t = ![t.val % 2, 0]
    ∧ win0_3.index t = ![t.val % 2, 0]
    ∧ win0_4.index t = ![t.val % 2, 0]
    ∧ win0_5.index t = ![t.val / 2, 0, 0]
    ∧ win0_6.index t = ![t.val % 2, 10 + t.val / 2]
    ∧ win0_7.index t = ![t.val % 2, 14 + t.val / 2]
    ∧ win0_8.index t = ![t.val % 2, 18 + t.val / 2]
    ∧ win0_9.index t = ![t.val % 2, t.val / 2]
    ∧ win0_10.index t = ![t.val % 2, t.val / 2]
    ∧ win0_11.index t = ![t.val % 2, t.val / 2]
    ∧ win0_12.index t = ![t.val % 2, t.val / 2]
    ∧ win0_13.index t = ![t.val % 2, t.val / 2]
    ∧ win0_14.index t = ![t.val % 2, t.val / 2] :=
  (by decide +kernel : ∀ t : Fin grid0.N, _)

theorem point_lt (t : Fin cfg0.N) : t.val < 2 * 4 := t.isLt

/-- The three branches' weights, one above the other and laid out by chip. -/
theorem entryW (c : Dev nD) (z : Fin 4) (q : Fin 768) (k : Fin 256) :
    V m c main_v6 (Idealize.ShloMosaic.ix3 z q k) = if h : q.val < 256 then m ((c : Thread nD τ).loc main_arg3)
        (Idealize.ShloMosaic.ix2 ⟨q.val, h⟩ ⟨z.val * 256 + k.val, by omega⟩)
      else if h' : q.val - 256 < 128 then m ((c : Thread nD τ).loc main_arg4)
        (Idealize.ShloMosaic.ix2 ⟨q.val - 256, h'⟩ ⟨z.val * 256 + k.val, by omega⟩)
      else m ((c : Thread nD τ).loc main_arg5)
        (Idealize.ShloMosaic.ix2 ⟨q.val - 256 - 128, by omega⟩ ⟨z.val * 256 + k.val, by omega⟩) := by
  entry_read
  pointwise

theorem embW (t : Fin cfg0.N) (z : Fin 1) (q : Fin 768) (k : Fin 256) :
    (win0_5.blk t).view.emb (Idealize.ShloMosaic.ix3 z q k) = Idealize.ShloMosaic.ix3 ⟨t.val / 2, Nat.div_lt_of_lt_mul (point_lt t)⟩ q k := by
  blk_ext! [idx_val t]

/-- A row of the first branch's weight, read. -/
theorem row0 (c : Dev nD) (t : Fin cfg0.N) (z : Fin 1) (x : Fin 256) (k : Fin 256) :
    iblk m c 5 t (Idealize.ShloMosaic.ix3 z ⟨x.val, by omega⟩ k) = m ((c : Thread nD τ).loc main_arg3)
      (Idealize.ShloMosaic.ix2 x ⟨(⟨t.val / 2, Nat.div_lt_of_lt_mul (point_lt t)⟩ : Fin 4).val * 256 + k.val, by omega⟩) :=
  (congrArg (V m c main_v6) (embW t z _ k)).trans ((entryW m c _ _ k).trans (dif_pos x.isLt))

/-- A row of the second branch's weight, read. -/
theorem row1 (c : Dev nD) (t : Fin cfg0.N) (z : Fin 1) (x : Fin 128) (k : Fin 256) :
    iblk m c 5 t (Idealize.ShloMosaic.ix3 z ⟨256 + x.val, by omega⟩ k) = m ((c : Thread nD τ).loc main_arg4)
      (Idealize.ShloMosaic.ix2 x ⟨(⟨t.val / 2, Nat.div_lt_of_lt_mul (point_lt t)⟩ : Fin 4).val * 256 + k.val, by omega⟩) := by
  refine (congrArg (V m c main_v6) (embW t z _ k)).trans ((entryW m c _ _ k).trans ((dif_neg (by simp)).trans ((dif_pos (by simp)).trans ?_)))
  simp

/-- A row of the third branch's weight, read. -/
theorem row2 (c : Dev nD) (t : Fin cfg0.N) (z : Fin 1) (x : Fin 384) (k : Fin 256) :
    iblk m c 5 t (Idealize.ShloMosaic.ix3 z ⟨384 + x.val, by omega⟩ k) = m ((c : Thread nD τ).loc main_arg5)
      (Idealize.ShloMosaic.ix2 x ⟨(⟨t.val / 2, Nat.div_lt_of_lt_mul (point_lt t)⟩ : Fin 4).val * 256 + k.val, by omega⟩) := by
  refine (congrArg (V m c main_v6) (embW t z _ k)).trans ((entryW m c _ _ k).trans ((dif_neg (by simp; omega)).trans ((dif_neg (by simp; omega)).trans ?_)))
  congr 2
  refine Fin.ext ?_
  show 384 + x.val - 256 - 128 = x.val
  omega

/-- The output weight's block, read. -/
theorem rowO (c : Dev nD) (t : Fin cfg0.N) (z : Fin 1) (q : Fin 256) (k : Fin 1024) :
    iblk m c 1 t (Idealize.ShloMosaic.ix3 z q k) = m ((c : Thread nD τ).loc main_arg7)
      (Idealize.ShloMosaic.ix2 ⟨t.val / 2 * 256 + q.val, by have := point_lt t; omega⟩ k) := by
  blk_point [iblk, V, idx_val t]

theorem prod_congr {d d' g g' : EReal} (hd : d = d') (hg : g = g') :
    d * Ideal.div 1 (1 + Ideal.exp (0 - g)) = Ideal.div 1 (1 + Ideal.exp (-g')) * d' := by
  rw [zero_sub, hg, hd, mul_comm]

theorem gate_congr {d d' u u' g g' : EReal} (hd : d = d') (hu : u = u') (hg : g = g') :
    d * u * (Ideal.div 1 (1 + Ideal.exp (0 - g)) * (1 - Ideal.div 1 (1 + Ideal.exp (0 - g))))
    = d' * u' * (Ideal.div 1 (1 + Ideal.exp (-g')) * (1 - Ideal.div 1 (1 + Ideal.exp (-g')))) := by
  rw [zero_sub, hg, hd, hu]

/-- The gradient of the first branch's product after the run. -/
theorem prod0 (c : Dev nD) : (dats m 0 c).arrAt 9 (cfgs 0).N
    = refU0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  frame_out
  pointwise [k0_pay16, k0_pay15, k0_pay14, k0_pay13, k0_pay12, k0_pay11, k0_pay10, k0_pay9, k0_pay8, k0_pay7, k0_pay6, k0_pay5, k0_pay4, k0_pay3, k0_pay2, k0_pay1, refU0, logistic, one]
  have hy : y = Idealize.ShloMosaic.ix2 (y 0) (y 1) := by funext i; fin_cases i <;> rfl
  refine prod_congr (Finset.sum_congr rfl fun k _ => congrArg₂ HMul.hMul ?_ ((rowO m c t _ _ _).trans ?_)) ?_
  · blk_point [iblk, V, idx_val t]
  · blk_point [iblk, V, idx_val t]
  · rw [hy]; blk_point [iblk, V, idx_val t]

/-- The gradient of the first branch's gate after the run. -/
theorem gate0 (c : Dev nD) : (dats m 0 c).arrAt 12 (cfgs 0).N
    = refG0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]
  frame_out
  pointwise [k0_pay16, k0_pay15, k0_pay14, k0_pay13, k0_pay12, k0_pay11, k0_pay10, k0_pay9, k0_pay8, k0_pay7, k0_pay6, k0_pay5, k0_pay4, k0_pay3, k0_pay2, k0_pay1, refG0, logistic, one]
  have hy : y = Idealize.ShloMosaic.ix2 (y 0) (y 1) := by funext i; fin_cases i <;> rfl
  refine gate_congr (Finset.sum_congr rfl fun k _ => congrArg₂ HMul.hMul ?_ ((rowO m c t _ _ _).trans ?_))
    (Finset.sum_congr rfl fun k _ => congrArg₂ HMul.hMul ?_ ((row0 m c t _ _ _).trans ?_)) ?_
  · blk_point [iblk, V, idx_val t]
  · blk_point [iblk, V, idx_val t]
  · blk_point [iblk, V, idx_val t]
  · blk_point [iblk, V, idx_val t]
  · rw [hy]; blk_point [iblk, V, idx_val t]

/-- The gradient of the second branch's product after the run. -/
theorem prod1 (c : Dev nD) : (dats m 0 c).arrAt 10 (cfgs 0).N
    = refU1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  frame_out
  pointwise [k0_pay16, k0_pay15, k0_pay14, k0_pay13, k0_pay12, k0_pay11, k0_pay10, k0_pay9, k0_pay8, k0_pay7, k0_pay6, k0_pay5, k0_pay4, k0_pay3, k0_pay2, k0_pay1, refU1, logistic, one]
  have hy : y = Idealize.ShloMosaic.ix2 (y 0) (y 1) := by funext i; fin_cases i <;> rfl
  refine prod_congr (Finset.sum_congr rfl fun k _ => congrArg₂ HMul.hMul ?_ ((rowO m c t _ _ _).trans ?_)) ?_
  · blk_point [iblk, V, idx_val t]
  · blk_point [iblk, V, idx_val t]
  · rw [hy]; blk_point [iblk, V, idx_val t]

/-- The gradient of the second branch's gate after the run. -/
theorem gate1 (c : Dev nD) : (dats m 0 c).arrAt 13 (cfgs 0).N
    = refG1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t _ y => ?_
  blk_simp
  rw [after0_13]
  frame_out
  pointwise [k0_pay16, k0_pay15, k0_pay14, k0_pay13, k0_pay12, k0_pay11, k0_pay10, k0_pay9, k0_pay8, k0_pay7, k0_pay6, k0_pay5, k0_pay4, k0_pay3, k0_pay2, k0_pay1, refG1, logistic, one]
  have hy : y = Idealize.ShloMosaic.ix2 (y 0) (y 1) := by funext i; fin_cases i <;> rfl
  refine gate_congr (Finset.sum_congr rfl fun k _ => congrArg₂ HMul.hMul ?_ ((rowO m c t _ _ _).trans ?_))
    (Finset.sum_congr rfl fun k _ => congrArg₂ HMul.hMul ?_ ((row1 m c t _ _ _).trans ?_)) ?_
  · blk_point [iblk, V, idx_val t]
  · blk_point [iblk, V, idx_val t]
  · blk_point [iblk, V, idx_val t]
  · blk_point [iblk, V, idx_val t]
  · rw [hy]; blk_point [iblk, V, idx_val t]

/-- The gradient of the third branch's product after the run. -/
theorem prod2 (c : Dev nD) : (dats m 0 c).arrAt 11 (cfgs 0).N
    = refU2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t _ y => ?_
  blk_simp
  rw [after0_11]
  frame_out
  pointwise [k0_pay16, k0_pay15, k0_pay14, k0_pay13, k0_pay12, k0_pay11, k0_pay10, k0_pay9, k0_pay8, k0_pay7, k0_pay6, k0_pay5, k0_pay4, k0_pay3, k0_pay2, k0_pay1, refU2, logistic, one]
  have hy : y = Idealize.ShloMosaic.ix2 (y 0) (y 1) := by funext i; fin_cases i <;> rfl
  refine prod_congr (Finset.sum_congr rfl fun k _ => congrArg₂ HMul.hMul ?_ ((rowO m c t _ _ _).trans ?_)) ?_
  · blk_point [iblk, V, idx_val t]
  · blk_point [iblk, V, idx_val t]
  · rw [hy]; blk_point [iblk, V, idx_val t]

/-- The gradient of the third branch's gate after the run. -/
theorem gate2 (c : Dev nD) : (dats m 0 c).arrAt 14 (cfgs 0).N
    = refG2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t _ y => ?_
  blk_simp
  rw [after0_14]
  frame_out
  pointwise [k0_pay16, k0_pay15, k0_pay14, k0_pay13, k0_pay12, k0_pay11, k0_pay10, k0_pay9, k0_pay8, k0_pay7, k0_pay6, k0_pay5, k0_pay4, k0_pay3, k0_pay2, k0_pay1, refG2, logistic, one]
  have hy : y = Idealize.ShloMosaic.ix2 (y 0) (y 1) := by funext i; fin_cases i <;> rfl
  refine gate_congr (Finset.sum_congr rfl fun k _ => congrArg₂ HMul.hMul ?_ ((rowO m c t _ _ _).trans ?_))
    (Finset.sum_congr rfl fun k _ => congrArg₂ HMul.hMul ?_ ((row2 m c t _ _ _).trans ?_)) ?_
  · blk_point [iblk, V, idx_val t]
  · blk_point [iblk, V, idx_val t]
  · blk_point [iblk, V, idx_val t]
  · blk_point [iblk, V, idx_val t]
  · rw [hy]; blk_point [iblk, V, idx_val t]

end Cert.Kernel8Ideal.MergeBwd

end
-- ==== Proof.Merge.lean ====
/- The gated merge of the three branches: what each grid point leaves, against the reference's sum of gated products. -/
module

public import proofs.«01_k».proof.Proof.Gen.Kernel7Ideal.Frame
public import proofs.«01_k».proof.Proof.Gen.Reference7Ideal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel7Ideal.Merge

open Cert.Kernel7Ideal Cert.Kernel7Ideal.Gen

variable (m : (ℓ : Loc nD τ sig) → Buf (Elt Ideal) ℓ)

/-- Ones. -/
abbrev one : FVec Ideal S2048x1024 .f32 := broadcastInDim Cert.Reference7Ideal.S2048x1024 ![] Cert.Reference7Ideal.Gen.bcast_S_S2048x1024 (constant Cert.Reference7Ideal.S_ .f32 0x3F800000#32)

/-- The logistic function, entry by entry. -/
abbrev logistic (g : FVec Ideal S2048x1024 .f32) : FVec Ideal S2048x1024 .f32 := Host.divf one (addf one (Host.exp (Host.negf g)))

/-- The merged branches. -/
abbrev refM (x0 : FVec Ideal S2048x256 .f32) (x1 : FVec Ideal S2048x128 .f32) (x2 : FVec Ideal S2048x384 .f32) (x3 : FVec Ideal S256x1024 .f32) (x4 : FVec Ideal S128x1024 .f32) (x5 : FVec Ideal S384x1024 .f32) (x6 : FVec Ideal S2048x5632 .f32) : FVec Ideal S2048x1024 .bf16 :=
  truncf .bf16 (addf (addf (mulf (logistic (extractStridedSlice Cert.Reference7Ideal.S2048x1024 ![0, 2560] x6 Cert.Reference7Ideal.Gen.slices_S2048x5632_S2048x1024_0_2560)) (Host.dotGeneral Cert.Reference7Ideal.dot_S2048x256_S256x1024_S2048x1024_1_0_0_1_n_n none x0 x3)) (mulf (logistic (extractStridedSlice Cert.Reference7Ideal.S2048x1024 ![0, 3584] x6 Cert.Reference7Ideal.Gen.slices_S2048x5632_S2048x1024_0_3584)) (Host.dotGeneral Cert.Reference7Ideal.dot_S2048x128_S128x1024_S2048x1024_1_0_0_1_n_n none x1 x4))) (mulf (logistic (extractStridedSlice Cert.Reference7Ideal.S2048x1024 ![0, 4608] x6 Cert.Reference7Ideal.Gen.slices_S2048x5632_S2048x1024_0_4608)) (Host.dotGeneral Cert.Reference7Ideal.dot_S2048x384_S384x1024_S2048x1024_1_0_0_1_n_n none x2 x5))) Cert.Reference7Ideal.Gen.bitsLt_bf16_f32

theorem idx_val : ∀ t : Fin cfg0.N, win0_0.index t = ![t.val / 4, 0]
    ∧ win0_1.index t = ![t.val / 4, 0]
    ∧ win0_2.index t = ![t.val / 4, 0]
    ∧ win0_3.index t = ![t.val % 4, 0, 0]
    ∧ win0_4.index t = ![t.val / 4, 10 + t.val % 4]
    ∧ win0_5.index t = ![t.val / 4, 14 + t.val % 4]
    ∧ win0_6.index t = ![t.val / 4, 18 + t.val % 4]
    ∧ win0_7.index t = ![t.val / 4, t.val % 4] :=
  (by decide +kernel : ∀ t : Fin grid0.N, _)

theorem point_lt (t : Fin cfg0.N) : t.val < 8 := t.isLt

/-- The three branches' weights, one above the other and laid out by chip. -/
theorem entryW (c : Dev nD) (z : Fin 4) (q : Fin 768) (k : Fin 256) :
    V m c main_v3 (Idealize.ShloMosaic.ix3 z q k) = if h : q.val < 256 then m ((c : Thread nD τ).loc main_arg3)
        (Idealize.ShloMosaic.ix2 ⟨q.val, h⟩ ⟨z.val * 256 + k.val, by omega⟩)
      else if h' : q.val - 256 < 128 then m ((c : Thread nD τ).loc main_arg4)
        (Idealize.ShloMosaic.ix2 ⟨q.val - 256, h'⟩ ⟨z.val * 256 + k.val, by omega⟩)
      else m ((c : Thread nD τ).loc main_arg5)
        (Idealize.ShloMosaic.ix2 ⟨q.val - 256 - 128, by omega⟩ ⟨z.val * 256 + k.val, by omega⟩) := by
  entry_read
  pointwise

theorem embW (t : Fin cfg0.N) (z : Fin 1) (q : Fin 768) (k : Fin 256) :
    (win0_3.blk t).view.emb (Idealize.ShloMosaic.ix3 z q k) = Idealize.ShloMosaic.ix3 ⟨t.val % 4, Nat.mod_lt _ (by decide)⟩ q k := by
  blk_ext! [idx_val t]

/-- A row of the first branch's weight, read. -/
theorem row0 (c : Dev nD) (t : Fin cfg0.N) (z : Fin 1) (x : Fin 256) (k : Fin 256) :
    iblk m c 3 t (Idealize.ShloMosaic.ix3 z ⟨x.val, by omega⟩ k) = m ((c : Thread nD τ).loc main_arg3)
      (Idealize.ShloMosaic.ix2 x ⟨(⟨t.val % 4, Nat.mod_lt _ (by decide)⟩ : Fin 4).val * 256 + k.val, by omega⟩) :=
  (congrArg (V m c main_v3) (embW t z _ k)).trans ((entryW m c _ _ k).trans (dif_pos x.isLt))

/-- A row of the second branch's weight, read. -/
theorem row1 (c : Dev nD) (t : Fin cfg0.N) (z : Fin 1) (x : Fin 128) (k : Fin 256) :
    iblk m c 3 t (Idealize.ShloMosaic.ix3 z ⟨256 + x.val, by omega⟩ k) = m ((c : Thread nD τ).loc main_arg4)
      (Idealize.ShloMosaic.ix2 x ⟨(⟨t.val % 4, Nat.mod_lt _ (by decide)⟩ : Fin 4).val * 256 + k.val, by omega⟩) := by
  refine (congrArg (V m c main_v3) (embW t z _ k)).trans ((entryW m c _ _ k).trans ((dif_neg (by simp)).trans ((dif_pos (by simp)).trans ?_)))
  simp

/-- A row of the third branch's weight, read. -/
theorem row2 (c : Dev nD) (t : Fin cfg0.N) (z : Fin 1) (x : Fin 384) (k : Fin 256) :
    iblk m c 3 t (Idealize.ShloMosaic.ix3 z ⟨384 + x.val, by omega⟩ k) = m ((c : Thread nD τ).loc main_arg5)
      (Idealize.ShloMosaic.ix2 x ⟨(⟨t.val % 4, Nat.mod_lt _ (by decide)⟩ : Fin 4).val * 256 + k.val, by omega⟩) := by
  refine (congrArg (V m c main_v3) (embW t z _ k)).trans ((entryW m c _ _ k).trans ((dif_neg (by simp; omega)).trans ((dif_neg (by simp; omega)).trans ?_)))
  congr 2
  refine Fin.ext ?_
  show 384 + x.val - 256 - 128 = x.val
  omega

theorem term_congr {g g' s s' : EReal} (hg : g = g') (hs : s = s') :
    Ideal.div 1 (1 + Ideal.exp (0 - g)) * s = Ideal.div 1 (1 + Ideal.exp (-g')) * s' := by
  rw [zero_sub, hg, hs]

/-- The merged branches after the run. -/
theorem merged (c : Dev nD) : (dats m 0 c).arrAt 7 (cfgs 0).N
    = refM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  frame_out
  pointwise [k0_pay1, k0_pay2, k0_pay3, k0_pay4, k0_pay5, refM, logistic, one]
  have hy : y = Idealize.ShloMosaic.ix2 (y 0) (y 1) := by funext i; fin_cases i <;> rfl
  refine congrArg₂ HAdd.hAdd (congrArg₂ HAdd.hAdd
    (term_congr ?_ (Finset.sum_congr rfl fun k _ => congrArg₂ HMul.hMul ?_ ((row0 m c t _ _ _).trans ?_)))
    (term_congr ?_ (Finset.sum_congr rfl fun k _ => congrArg₂ HMul.hMul ?_ ((row1 m c t _ _ _).trans ?_))))
    (term_congr ?_ (Finset.sum_congr rfl fun k _ => congrArg₂ HMul.hMul ?_ ((row2 m c t _ _ _).trans ?_)))
  · rw [hy]; blk_point [iblk, V, idx_val t]
  · blk_point [iblk, V, idx_val t]
  · blk_point [iblk, V, idx_val t]
  · rw [hy]; blk_point [iblk, V, idx_val t]
  · blk_point [iblk, V, idx_val t]
  · blk_point [iblk, V, idx_val t]
  · rw [hy]; blk_point [iblk, V, idx_val t]
  · blk_point [iblk, V, idx_val t]
  · blk_point [iblk, V, idx_val t]

end Cert.Kernel7Ideal.Merge

end
-- ==== Proof.lean ====
/- The claims of `Defs`: the stick-breaking attention's gradient, the FFN, the projections and the gated merge. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.GradW
public import proofs.«01_k».proof.Proof.Up
public import proofs.«01_k».proof.Proof.Hid
public import proofs.«01_k».proof.Proof.InProj
public import proofs.«01_k».proof.Proof.GradIn
public import proofs.«01_k».proof.Proof.BrIn
public import proofs.«01_k».proof.Proof.GradBr
public import proofs.«01_k».proof.Proof.OutProj
public import proofs.«01_k».proof.Proof.GradOut
public import proofs.«01_k».proof.Proof.FfnDown
public import proofs.«01_k».proof.Proof.MergeBwd
public import proofs.«01_k».proof.Proof.Merge
public import Idealize.ShloMosaic.Lib.ReduceAll
public import proofs.«01_k».proof.Proof.Gen.Reference2Ideal.Read

@[expose] public section

noncomputable section

namespace Cert.Proof

open Idealize.ShloMosaic Idealize.SL.Sem

/-- The kernel's body table at the bit patterns is the idealized program's, their texts being the same. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  congr 1
  funext l a
  match l, a with
  | 0, (t, s) => exact rfl

theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

set_option maxHeartbeats 4000000 in
theorem main_eq : @Cert.Kernel.main Bits _ Cert.Kernel.Gen.facts = @Cert.KernelIdeal.main Bits _ Cert.KernelIdeal.Gen.facts := rfl

theorem frame_kernel : @Cert.quiescent_Kernel Cert.Kernel.Gen.facts := fun m ρ _ => by
  rw [defs_eq, main_eq]
  exact (θ_run Cert.KernelIdeal.defs _ _).mono (fun _ h => h.1) (Cert.KernelIdeal.Sb.run_main (F := Bits) m ρ)

theorem frame_kernel_ideal : Cert.quiescent_KernelIdeal := fun m ρ _ =>
  (θ_run Cert.KernelIdeal.defs _ _).mono (fun _ h => h.1) (Cert.KernelIdeal.Sb.run_main (F := Ideal) m ρ)

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The gradients of the FFN's three weights are the reference's. -/
theorem algebraic2 : Cert.algebraic_Kernel2Ideal_Reference2Ideal := by
  intro m g m' g' _ hagree
  refine ⟨fun c => Cert.Kernel2Ideal.GradW.refIn (m (c.tc.loc Cert.Kernel2Ideal.main_arg0)) (m (c.tc.loc Cert.Kernel2Ideal.main_arg2)),
    fun c => Cert.Kernel2Ideal.GradW.refIn (m (c.tc.loc Cert.Kernel2Ideal.main_arg0)) (m (c.tc.loc Cert.Kernel2Ideal.main_arg3)),
    fun c => Cert.Kernel2Ideal.GradW.refOut (m (c.tc.loc Cert.Kernel2Ideal.main_arg1)) (m (c.tc.loc Cert.Kernel2Ideal.main_arg4)), ?_, ?_⟩
  · exact (θ_run Cert.Kernel2Ideal.defs _ _).mono (fun _ h c => ⟨(h c).1.trans (Cert.Kernel2Ideal.GradW.gate m c),
      (h c).2.1.trans (Cert.Kernel2Ideal.GradW.up m c), (h c).2.2.1.trans (Cert.Kernel2Ideal.GradW.down m c), (h c).2.2.2⟩)
      (Cert.Kernel2Ideal.Value.run_blocks (F := Ideal) m g)
  · refine (θ_run Cert.Reference2Ideal.defs _ _).mono (fun _ h c => ?_) (Cert.Reference2Ideal.Value.run (F := Ideal) m' g')
    have ha := hagree c
    refine ⟨(h c).1.trans ?_, (h c).2.1.trans ?_, (h c).2.2.1.trans ?_, (h c).2.2.2⟩
    · rw [ha.1, ha.2.2.1]
    · rw [ha.1, ha.2.2.2.1]
    · rw [ha.2.1, ha.2.2.2.2]

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The hidden layer of the FFN is the reference's. -/
theorem algebraic3 : Cert.algebraic_Kernel3Ideal_Reference3Ideal := by
  intro m g m' g' _ hagree
  refine ⟨fun c => Cert.Kernel3Ideal.Up.refA (m (c.tc.loc Cert.Kernel3Ideal.main_arg0)) (m (c.tc.loc Cert.Kernel3Ideal.main_arg1)) (m (c.tc.loc Cert.Kernel3Ideal.main_arg2)),
    fun c => Cert.Kernel3Ideal.Up.refB (m (c.tc.loc Cert.Kernel3Ideal.main_arg0)) (m (c.tc.loc Cert.Kernel3Ideal.main_arg1)) (m (c.tc.loc Cert.Kernel3Ideal.main_arg2)),
    fun c => Cert.Kernel3Ideal.Up.refS (m (c.tc.loc Cert.Kernel3Ideal.main_arg0)) (m (c.tc.loc Cert.Kernel3Ideal.main_arg1)) (m (c.tc.loc Cert.Kernel3Ideal.main_arg2)), ?_, ?_⟩
  · exact (θ_run Cert.Kernel3Ideal.defs _ _).mono (fun _ h c => ⟨(h c).1.trans (Cert.Kernel3Ideal.Up.gate m c), (h c).2.1.trans (Cert.Kernel3Ideal.Up.other m c), (h c).2.2.1.trans (Cert.Kernel3Ideal.Up.act m c), (h c).2.2.2⟩)
      (Cert.Kernel3Ideal.Value.run_blocks (F := Ideal) m g)
  · refine (θ_run Cert.Reference3Ideal.defs _ _).mono (fun _ h c => ?_) (Cert.Reference3Ideal.Value.run (F := Ideal) m' g')
    have ha := hagree c
    refine ⟨(h c).1.trans ?_, (h c).2.1.trans ?_, (h c).2.2.1.trans ?_, (h c).2.2.2⟩
    · simp only [ha.1, ha.2.1, ha.2.2]
    · simp only [ha.1, ha.2.1, ha.2.2]
    · simp only [ha.1, ha.2.1, ha.2.2]

/-- The precondition's side conditions. -/
instance finiteFacts : Cert.Pre_finite.Facts where
  bcast_S_S2048x2816 := by decide
  reducesTo_S2048x2816_S_d0_1 := by decide
  h_S_ := by decide
  bcast_S_S2816x1024 := by decide
  reducesTo_S2816x1024_S_d0_1 := by decide
  bcast_S_S2048x1024 := by decide
  reducesTo_S2048x1024_S_d0_1 := by decide

theorem real_of_abs_lt {x : EReal} (h : Ideal.cmp .olt (max x (-x)) (Ideal.ofBits .f32 0x7F800000#32) = 1#1) :
    Cert.Kernel4Ideal.Hid.IsReal x := by
  replace h := (Ideal.cmp_olt_eq_one _ _).1 h
  rw [show Ideal.ofBits .f32 0x7F800000#32 = ⊤ by simp [Ideal.ofBits, Ideal.ieee], max_lt_iff] at h
  refine ⟨x.toReal, (EReal.coe_toReal h.1.ne ?_).symm⟩
  rintro rfl
  exact absurd h.2 (by simp)

/-- The precondition's four arrays hold real numbers. -/
theorem fin (m : (ℓ : Loc Cert.Kernel4Ideal.nD Cert.Kernel4Ideal.τ Cert.Kernel4Ideal.sig) → Buf (Elt Ideal) ℓ)
    (hp : Cert.Pre_Kernel4Ideal_finite m) (c : Dev Cert.Kernel4Ideal.nD) :
    (∀ i, Cert.Kernel4Ideal.Hid.IsReal (m (c.tc.loc Cert.Kernel4Ideal.main_arg0) i)) ∧ (∀ i, Cert.Kernel4Ideal.Hid.IsReal (m (c.tc.loc Cert.Kernel4Ideal.main_arg1) i))
    ∧ (∀ i, Cert.Kernel4Ideal.Hid.IsReal (m (c.tc.loc Cert.Kernel4Ideal.main_arg2) i)) ∧ (∀ i, Cert.Kernel4Ideal.Hid.IsReal (m (c.tc.loc Cert.Kernel4Ideal.main_arg3) i)) := by
  have h := hp c
  replace h := congrFun h ix0
  obtain ⟨h, h3⟩ := IntOp.andi_eq_one.1 h
  obtain ⟨h, h2⟩ := IntOp.andi_eq_one.1 h
  obtain ⟨h0, h1⟩ := IntOp.andi_eq_one.1 h
  have S : Subsingleton Cert.Pre_finite.S_.Idx := ⟨fun a b => funext fun i => i.elim0⟩
  exact ⟨fun i => real_of_abs_lt (Host.reduce_andi_all _ _ _ _ _ h0 i), fun i => real_of_abs_lt (Host.reduce_andi_all _ _ _ _ _ h1 i),
    fun i => real_of_abs_lt (Host.reduce_andi_all _ _ _ _ _ h2 i), fun i => real_of_abs_lt (Host.reduce_andi_all _ _ _ _ _ h3 i)⟩

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The gradients of the hidden layer's pre-activations are the reference's. -/
theorem algebraic4 : Cert.algebraic_Kernel4Ideal_Reference4Ideal_pre_finite := by
  intro m g m' g' hp hagree
  refine ⟨fun c => Cert.Kernel4Ideal.Hid.refDA (m (c.tc.loc Cert.Kernel4Ideal.main_arg0)) (m (c.tc.loc Cert.Kernel4Ideal.main_arg1)) (m (c.tc.loc Cert.Kernel4Ideal.main_arg2)) (m (c.tc.loc Cert.Kernel4Ideal.main_arg3)),
    fun c => Cert.Kernel4Ideal.Hid.refDB (m (c.tc.loc Cert.Kernel4Ideal.main_arg0)) (m (c.tc.loc Cert.Kernel4Ideal.main_arg1)) (m (c.tc.loc Cert.Kernel4Ideal.main_arg2)) (m (c.tc.loc Cert.Kernel4Ideal.main_arg3)), ?_, ?_⟩
  · exact (θ_run Cert.Kernel4Ideal.defs _ _).mono (fun _ h c => ⟨(h c).1.trans (Cert.Kernel4Ideal.Hid.gate m c (fin m hp c).1 (fin m hp c).2.1 (fin m hp c).2.2.1 (fin m hp c).2.2.2), (h c).2.1.trans (Cert.Kernel4Ideal.Hid.other m c), (h c).2.2⟩)
      (Cert.Kernel4Ideal.Value.run_blocks (F := Ideal) m g)
  · refine (θ_run Cert.Reference4Ideal.defs _ _).mono (fun _ h c => ?_) (Cert.Reference4Ideal.Value.run (F := Ideal) m' g')
    have ha := hagree c
    refine ⟨(h c).1.trans ?_, (h c).2.1.trans ?_, (h c).2.2⟩
    · simp only [ha.1, ha.2.1, ha.2.2.1, ha.2.2.2]
    · simp only [ha.1, ha.2.1, ha.2.2.1, ha.2.2.2]

theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The input projection is the reference's. -/
theorem algebraic5 : Cert.algebraic_Kernel5Ideal_Reference5Ideal := by
  intro m g m' g' _ hagree
  refine ⟨fun c => Cert.Kernel5Ideal.InProj.refP (m (c.tc.loc Cert.Kernel5Ideal.main_arg0)) (m (c.tc.loc Cert.Kernel5Ideal.main_arg1)),
    fun c => Cert.Kernel5Ideal.InProj.refQ (m (c.tc.loc Cert.Kernel5Ideal.main_arg0)) (m (c.tc.loc Cert.Kernel5Ideal.main_arg1)), ?_, ?_⟩
  · exact (θ_run Cert.Kernel5Ideal.defs _ _).mono (fun _ h c => ⟨(h c).1.trans (Cert.Kernel5Ideal.InProj.proj m c), (h c).2.1.trans (Cert.Kernel5Ideal.InProj.rounded m c), (h c).2.2⟩)
      (Cert.Kernel5Ideal.Value.run_blocks (F := Ideal) m g)
  · refine (θ_run Cert.Reference5Ideal.defs _ _).mono (fun _ h c => ?_) (Cert.Reference5Ideal.Value.run (F := Ideal) m' g')
    have ha := hagree c
    refine ⟨(h c).1.trans ?_, (h c).2.1.trans ?_, (h c).2.2⟩
    · simp only [ha.1, ha.2]
    · simp only [ha.1, ha.2]

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient of the input projection's weight is the reference's. -/
theorem algebraic6 : Cert.algebraic_Kernel6Ideal_Reference6Ideal := by
  intro m g m' g' _ hagree
  refine ⟨fun c => Cert.Kernel6Ideal.GradIn.refG (m (c.tc.loc Cert.Kernel6Ideal.main_arg0)) (m (c.tc.loc Cert.Kernel6Ideal.main_arg1)), ?_, ?_⟩
  · exact (θ_run Cert.Kernel6Ideal.defs _ _).mono (fun _ h c => ⟨(h c).1.trans (Cert.Kernel6Ideal.GradIn.grad m c), (h c).2⟩)
      (Cert.Kernel6Ideal.Value.run_blocks (F := Ideal) m g)
  · refine (θ_run Cert.Reference6Ideal.defs _ _).mono (fun _ h c => ?_) (Cert.Reference6Ideal.Value.run (F := Ideal) m' g')
    have ha := hagree c
    refine ⟨(h c).1.trans ?_, (h c).2⟩
    · simp only [ha.1, ha.2]

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The gated merge of the branches is the reference's. -/
theorem algebraic7 : Cert.algebraic_Kernel7Ideal_Reference7Ideal := by
  intro m g m' g' _ hagree
  refine ⟨fun c => Cert.Kernel7Ideal.Merge.refM (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)), ?_, ?_⟩
  · exact (θ_run Cert.Kernel7Ideal.defs _ _).mono (fun _ h c => ⟨(h c).1.trans (Cert.Kernel7Ideal.Merge.merged m c), (h c).2⟩)
      (Cert.Kernel7Ideal.Value.run_blocks (F := Ideal) m g)
  · refine (θ_run Cert.Reference7Ideal.defs _ _).mono (fun _ h c => ?_) (Cert.Reference7Ideal.Value.run (F := Ideal) m' g')
    have ha := hagree c
    refine ⟨(h c).1.trans ?_, (h c).2⟩
    simp only [ha.1, ha.2.1, ha.2.2.1, ha.2.2.2.1, ha.2.2.2.2.1, ha.2.2.2.2.2.1, ha.2.2.2.2.2.2]

theorem frame_reference8 : Cert.quiescent_Reference8Ideal := fun m ρ _ =>
  (θ_run Cert.Reference8Ideal.defs _ _).mono (fun r h => ⟨fun c => (h c).2.2.2.2.2.2, sem_eq_zero_of_no_sems (by decide) r.2⟩)
    (Cert.Reference8Ideal.Value.run (F := Ideal) m ρ)

/-- The gradients of the gated merge are the reference's. -/
theorem algebraic8 : Cert.algebraic_Kernel8Ideal_Reference8Ideal := by
  intro m g m' g' _ hagree
  refine ⟨fun c => Cert.Kernel8Ideal.MergeBwd.refU0 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)) (m (c.tc.loc Cert.Kernel8Ideal.main_arg8)),
    fun c => Cert.Kernel8Ideal.MergeBwd.refU1 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)) (m (c.tc.loc Cert.Kernel8Ideal.main_arg8)),
    fun c => Cert.Kernel8Ideal.MergeBwd.refU2 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)) (m (c.tc.loc Cert.Kernel8Ideal.main_arg8)),
    fun c => Cert.Kernel8Ideal.MergeBwd.refG0 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)) (m (c.tc.loc Cert.Kernel8Ideal.main_arg8)),
    fun c => Cert.Kernel8Ideal.MergeBwd.refG1 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)) (m (c.tc.loc Cert.Kernel8Ideal.main_arg8)),
    fun c => Cert.Kernel8Ideal.MergeBwd.refG2 (m (c.tc.loc Cert.Kernel8Ideal.main_arg0)) (m (c.tc.loc Cert.Kernel8Ideal.main_arg1)) (m (c.tc.loc Cert.Kernel8Ideal.main_arg2)) (m (c.tc.loc Cert.Kernel8Ideal.main_arg3)) (m (c.tc.loc Cert.Kernel8Ideal.main_arg4)) (m (c.tc.loc Cert.Kernel8Ideal.main_arg5)) (m (c.tc.loc Cert.Kernel8Ideal.main_arg6)) (m (c.tc.loc Cert.Kernel8Ideal.main_arg7)) (m (c.tc.loc Cert.Kernel8Ideal.main_arg8)), ?_, ?_⟩
  · exact (θ_run Cert.Kernel8Ideal.defs _ _).mono (fun _ h c => ⟨(h c).1.trans (Cert.Kernel8Ideal.MergeBwd.prod0 m c), (h c).2.1.trans (Cert.Kernel8Ideal.MergeBwd.prod1 m c), (h c).2.2.1.trans (Cert.Kernel8Ideal.MergeBwd.prod2 m c), (h c).2.2.2.1.trans (Cert.Kernel8Ideal.MergeBwd.gate0 m c), (h c).2.2.2.2.1.trans (Cert.Kernel8Ideal.MergeBwd.gate1 m c), (h c).2.2.2.2.2.1.trans (Cert.Kernel8Ideal.MergeBwd.gate2 m c), (h c).2.2.2.2.2.2⟩)
      (Cert.Kernel8Ideal.Value.run_blocks (F := Ideal) m g)
  · refine (θ_run Cert.Reference8Ideal.defs _ _).mono (fun _ h c => ?_) (Cert.Reference8Ideal.Value.run (F := Ideal) m' g')
    have ha := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    all_goals simp only [ha.1, ha.2.1, ha.2.2.1, ha.2.2.2.1, ha.2.2.2.2.1, ha.2.2.2.2.2.1, ha.2.2.2.2.2.2.1, ha.2.2.2.2.2.2.2.1, ha.2.2.2.2.2.2.2.2]

theorem frame_reference9 : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The FFN's output, its residual and the next pre-norm are the reference's. -/
theorem algebraic9 : Cert.algebraic_Kernel9Ideal_Reference9Ideal := by
  intro m g m' g' _ hagree
  refine ⟨fun c => Cert.Kernel9Ideal.FfnDown.refF (m (c.tc.loc Cert.Kernel9Ideal.main_arg0)) (m (c.tc.loc Cert.Kernel9Ideal.main_arg1)),
    fun c => Cert.Kernel9Ideal.FfnDown.refX (m (c.tc.loc Cert.Kernel9Ideal.main_arg0)) (m (c.tc.loc Cert.Kernel9Ideal.main_arg1)) (m (c.tc.loc Cert.Kernel9Ideal.main_arg2)) (m (c.tc.loc Cert.Kernel9Ideal.main_arg3)),
    fun c => Cert.Kernel9Ideal.FfnDown.refH (m (c.tc.loc Cert.Kernel9Ideal.main_arg0)) (m (c.tc.loc Cert.Kernel9Ideal.main_arg1)) (m (c.tc.loc Cert.Kernel9Ideal.main_arg2)) (m (c.tc.loc Cert.Kernel9Ideal.main_arg3)) (m (c.tc.loc Cert.Kernel9Ideal.main_arg4)), ?_, ?_⟩
  · exact (θ_run Cert.Kernel9Ideal.defs _ _).mono (fun _ h c => ⟨(h c).1.trans (Cert.Kernel9Ideal.FfnDown.prod m c), (h c).2.1.trans (Cert.Kernel9Ideal.FfnDown.resid m c), (h c).2.2.1.trans (Cert.Kernel9Ideal.FfnDown.norm m c), (h c).2.2.2⟩)
      (Cert.Kernel9Ideal.Value.run_blocks (F := Ideal) m g)
  · refine (θ_run Cert.Reference9Ideal.defs _ _).mono (fun _ h c => ?_) (Cert.Reference9Ideal.Value.run (F := Ideal) m' g')
    have ha := hagree c
    refine ⟨(h c).1.trans ?_, (h c).2.1.trans ?_, (h c).2.2.1.trans ?_, (h c).2.2.2⟩
    all_goals simp only [ha.1, ha.2.1, ha.2.2.1, ha.2.2.2.1, ha.2.2.2.2]

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The gradient of the output projection's weight is the reference's. -/
theorem algebraic10 : Cert.algebraic_Kernel10Ideal_Reference10Ideal := by
  intro m g m' g' _ hagree
  refine ⟨fun c => Cert.Kernel10Ideal.GradOut.refG (m (c.tc.loc Cert.Kernel10Ideal.main_arg0)) (m (c.tc.loc Cert.Kernel10Ideal.main_arg1)), ?_, ?_⟩
  · exact (θ_run Cert.Kernel10Ideal.defs _ _).mono (fun _ h c => ⟨(h c).1.trans (Cert.Kernel10Ideal.GradOut.grad m c), (h c).2⟩)
      (Cert.Kernel10Ideal.Value.run_blocks (F := Ideal) m g)
  · refine (θ_run Cert.Reference10Ideal.defs _ _).mono (fun _ h c => ?_) (Cert.Reference10Ideal.Value.run (F := Ideal) m' g')
    have ha := hagree c
    refine ⟨(h c).1.trans ?_, (h c).2⟩
    simp only [ha.1, ha.2]

theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The output projection, its residual and the next pre-norm are the reference's. -/
theorem algebraic11 : Cert.algebraic_Kernel11Ideal_Reference11Ideal := by
  intro m g m' g' _ hagree
  refine ⟨fun c => Cert.Kernel11Ideal.OutProj.refF (m (c.tc.loc Cert.Kernel11Ideal.main_arg0)) (m (c.tc.loc Cert.Kernel11Ideal.main_arg1)),
    fun c => Cert.Kernel11Ideal.OutProj.refX (m (c.tc.loc Cert.Kernel11Ideal.main_arg0)) (m (c.tc.loc Cert.Kernel11Ideal.main_arg1)) (m (c.tc.loc Cert.Kernel11Ideal.main_arg2)) (m (c.tc.loc Cert.Kernel11Ideal.main_arg3)),
    fun c => Cert.Kernel11Ideal.OutProj.refH (m (c.tc.loc Cert.Kernel11Ideal.main_arg0)) (m (c.tc.loc Cert.Kernel11Ideal.main_arg1)) (m (c.tc.loc Cert.Kernel11Ideal.main_arg2)) (m (c.tc.loc Cert.Kernel11Ideal.main_arg3)) (m (c.tc.loc Cert.Kernel11Ideal.main_arg4)), ?_, ?_⟩
  · exact (θ_run Cert.Kernel11Ideal.defs _ _).mono (fun _ h c => ⟨(h c).1.trans (Cert.Kernel11Ideal.OutProj.prod m c), (h c).2.1.trans (Cert.Kernel11Ideal.OutProj.resid m c), (h c).2.2.1.trans (Cert.Kernel11Ideal.OutProj.norm m c), (h c).2.2.2⟩)
      (Cert.Kernel11Ideal.Value.run_blocks (F := Ideal) m g)
  · refine (θ_run Cert.Reference11Ideal.defs _ _).mono (fun _ h c => ?_) (Cert.Reference11Ideal.Value.run (F := Ideal) m' g')
    have ha := hagree c
    refine ⟨(h c).1.trans ?_, (h c).2.1.trans ?_, (h c).2.2.1.trans ?_, (h c).2.2.2⟩
    all_goals simp only [ha.1, ha.2.1, ha.2.2.1, ha.2.2.2.1, ha.2.2.2.2]

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The gradients of the branches' output projections are the reference's. -/
theorem algebraic12 : Cert.algebraic_Kernel12Ideal_Reference12Ideal := by
  intro m g m' g' _ hagree
  refine ⟨fun c => Cert.Kernel12Ideal.GradBr.refG (m (c.tc.loc Cert.Kernel12Ideal.main_arg0)) (m (c.tc.loc Cert.Kernel12Ideal.main_arg1)) (m (c.tc.loc Cert.Kernel12Ideal.main_arg2)) (m (c.tc.loc Cert.Kernel12Ideal.main_arg3)) (m (c.tc.loc Cert.Kernel12Ideal.main_arg4)) (m (c.tc.loc Cert.Kernel12Ideal.main_arg5)), ?_, ?_⟩
  · exact (θ_run Cert.Kernel12Ideal.defs _ _).mono (fun _ h c => ⟨(h c).1.trans (Cert.Kernel12Ideal.GradBr.grad m c), (h c).2⟩)
      (Cert.Kernel12Ideal.Value.run_blocks (F := Ideal) m g)
  · refine (θ_run Cert.Reference12Ideal.defs _ _).mono (fun _ h c => ?_) (Cert.Reference12Ideal.Value.run (F := Ideal) m' g')
    have ha := hagree c
    refine ⟨(h c).1.trans ?_, (h c).2⟩
    show Cert.Kernel12Ideal.GradBr.refG (m' (c.tc.loc Cert.Reference12Ideal.main_arg0)) (m' (c.tc.loc Cert.Reference12Ideal.main_arg1)) (m' (c.tc.loc Cert.Reference12Ideal.main_arg2)) (m' (c.tc.loc Cert.Reference12Ideal.main_arg3)) (m' (c.tc.loc Cert.Reference12Ideal.main_arg4)) (m' (c.tc.loc Cert.Reference12Ideal.main_arg5)) = _
    rw [ha.1, ha.2.1, ha.2.2.1, ha.2.2.2.1, ha.2.2.2.2.1, ha.2.2.2.2.2]

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The gradients to the branches' outputs are the reference's. -/
theorem algebraic13 : Cert.algebraic_Kernel13Ideal_Reference13Ideal := by
  intro m g m' g' _ hagree
  refine ⟨fun c => Cert.Kernel13Ideal.BrIn.refG (m (c.tc.loc Cert.Kernel13Ideal.main_arg0)) (m (c.tc.loc Cert.Kernel13Ideal.main_arg1)) (m (c.tc.loc Cert.Kernel13Ideal.main_arg2)) (m (c.tc.loc Cert.Kernel13Ideal.main_arg3)) (m (c.tc.loc Cert.Kernel13Ideal.main_arg4)) (m (c.tc.loc Cert.Kernel13Ideal.main_arg5)), ?_, ?_⟩
  · exact (θ_run Cert.Kernel13Ideal.defs _ _).mono (fun _ h c => ⟨(h c).1.trans (Cert.Kernel13Ideal.BrIn.grad m c), (h c).2⟩)
      (Cert.Kernel13Ideal.Value.run_blocks (F := Ideal) m g)
  · refine (θ_run Cert.Reference13Ideal.defs _ _).mono (fun _ h c => ?_) (Cert.Reference13Ideal.Value.run (F := Ideal) m' g')
    have ha := hagree c
    refine ⟨(h c).1.trans ?_, (h c).2⟩
    show Cert.Kernel13Ideal.BrIn.refG (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) (m' (c.tc.loc Cert.Reference13Ideal.main_arg5)) = _
    rw [ha.1, ha.2.1, ha.2.2.1, ha.2.2.2.1, ha.2.2.2.2.1, ha.2.2.2.2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  finiteFacts,
  frame_kernel, frame_kernel_ideal, frame_reference,
  fun m ρ _ => Cert.Kernel2.Gen.frame m ρ, fun m ρ _ => Cert.Kernel2Ideal.Gen.frame m ρ,
  frame_reference2,
  fun m ρ _ => Cert.Kernel3.Gen.frame m ρ, fun m ρ _ => Cert.Kernel3Ideal.Gen.frame m ρ,
  frame_reference3,
  fun m ρ _ => Cert.Kernel4.Gen.frame m ρ, fun m ρ _ => Cert.Kernel4Ideal.Gen.frame m ρ, fun m ρ _ => Cert.Kernel4Ideal.Gen.frame m ρ,
  frame_reference4, fun m ρ h => frame_reference4 m ρ trivial,
  fun m ρ _ => Cert.Kernel5.Gen.frame m ρ, fun m ρ _ => Cert.Kernel5Ideal.Gen.frame m ρ,
  frame_reference5,
  fun m ρ _ => Cert.Kernel6.Gen.frame m ρ, fun m ρ _ => Cert.Kernel6Ideal.Gen.frame m ρ,
  frame_reference6,
  fun m ρ _ => Cert.Kernel7.Gen.frame m ρ, fun m ρ _ => Cert.Kernel7Ideal.Gen.frame m ρ,
  frame_reference7,
  fun m ρ _ => Cert.Kernel8.Gen.frame m ρ, fun m ρ _ => Cert.Kernel8Ideal.Gen.frame m ρ,
  frame_reference8,
  fun m ρ _ => Cert.Kernel9.Gen.frame m ρ, fun m ρ _ => Cert.Kernel9Ideal.Gen.frame m ρ,
  frame_reference9,
  fun m ρ _ => Cert.Kernel10.Gen.frame m ρ, fun m ρ _ => Cert.Kernel10Ideal.Gen.frame m ρ,
  frame_reference10,
  fun m ρ _ => Cert.Kernel11.Gen.frame m ρ, fun m ρ _ => Cert.Kernel11Ideal.Gen.frame m ρ,
  frame_reference11,
  fun m ρ _ => Cert.Kernel12.Gen.frame m ρ, fun m ρ _ => Cert.Kernel12Ideal.Gen.frame m ρ,
  frame_reference12,
  fun m ρ _ => Cert.Kernel13.Gen.frame m ρ, fun m ρ _ => Cert.Kernel13Ideal.Gen.frame m ρ,
  frame_reference13,
  trivial, trivial, algebraic2, trivial, algebraic3, trivial, algebraic4, trivial, algebraic5, trivial, algebraic6, trivial, algebraic7, trivial, algebraic8, trivial, algebraic9, trivial, algebraic10, trivial, algebraic11, trivial, algebraic12, trivial, algebraic13⟩

end Cert.Proof

end
